-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)) (v6 : (c : Dev Cert.KernelIdeal.nD) → Buf (Elt Ideal) ((c.tc : Thread Cert.KernelIdeal.nD Cert.KernelIdeal.τ).loc Cert.KernelIdeal.main_v37_6)) (v7 : (c : Dev Cert.KernelIdeal.nD) → Buf (Elt Ideal) ((c.tc : Thread Cert.KernelIdeal.nD Cert.KernelIdeal.τ).loc Cert.KernelIdeal.main_v37_7)) (v8 : (c : Dev Cert.KernelIdeal.nD) → Buf (Elt Ideal) ((c.tc : Thread Cert.KernelIdeal.nD Cert.KernelIdeal.τ).loc Cert.KernelIdeal.main_v37_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_v37_6) = v6 c
          ∧ r.2.mem ((c.tc : Thread Cert.KernelIdeal.nD Cert.KernelIdeal.τ).loc Cert.KernelIdeal.main_v37_7) = v7 c
          ∧ r.2.mem ((c.tc : Thread Cert.KernelIdeal.nD Cert.KernelIdeal.τ).loc Cert.KernelIdeal.main_v37_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_v196) = v4 c
          ∧ r.2.mem ((c.tc : Thread Cert.ReferenceIdeal.nD Cert.ReferenceIdeal.τ).loc Cert.ReferenceIdeal.main_v181) = v5 c
          ∧ r.2.mem ((c.tc : Thread Cert.ReferenceIdeal.nD Cert.ReferenceIdeal.τ).loc Cert.ReferenceIdeal.main_v175) = v6 c
          ∧ r.2.mem ((c.tc : Thread Cert.ReferenceIdeal.nD Cert.ReferenceIdeal.τ).loc Cert.ReferenceIdeal.main_v184) = v7 c
          ∧ r.2.mem ((c.tc : Thread Cert.ReferenceIdeal.nD Cert.ReferenceIdeal.τ).loc Cert.ReferenceIdeal.main_v191) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn_part2 {F : FTy → Type} [FloatOps F] (main_arg12 : FVec F S1024x1024 .f32) (main_arg13 : FVec F S1024x4096 .f32) (main_arg14 : FVec F S4096x1024 .f32) (main_v2 : IVec S4096x1024 1) (main_v5 : IVec S4096x512 1) (main_v8 : IVec S4096x512 1) (main_v11 : IVec S4096x1024 1) (main_v14 : IVec S1x1024 1) (main_v17 : IVec S1x1024 1) (main_v20 : IVec S1x1024 1) (main_v23 : IVec S1x1024 1) (main_v26 : IVec S1x1024 1) (main_v29 : IVec S1x1024 1) (main_v32 : IVec S1x1024 1) (main_v35 : IVec S1x1024 1) : IVec S4096x1024 1 × IVec S4096x512 1 × IVec S4096x512 1 × IVec S4096x1024 1 × IVec S1x1024 1 × IVec S1x1024 1 × IVec S1x1024 1 × IVec S1x1024 1 × IVec S1x1024 1 × IVec S1x1024 1 × IVec S1x1024 1 × IVec S1x1024 1 × IVec S1024x1024 1 × IVec S1024x4096 1 × IVec S4096x1024 1 :=
  let main_v36 : FVec F S1024x1024 .f32 := Host.absf main_arg12
  let main_cst_11 : FVec F S_ .f32 := constant S_ .f32 0x7F800000#32
  let main_v37 : FVec F S1024x1024 .f32 := broadcastInDim S1024x1024 ![] bcast_S_S1024x1024 main_cst_11
  let main_v38 : IVec S1024x1024 1 := cmpf .olt main_v36 main_v37
  let main_v39 : FVec F S1024x4096 .f32 := Host.absf main_arg13
  let main_cst_12 : FVec F S_ .f32 := constant S_ .f32 0x7F800000#32
  let main_v40 : FVec F S1024x4096 .f32 := broadcastInDim S1024x4096 ![] bcast_S_S1024x4096 main_cst_12
  let main_v41 : IVec S1024x4096 1 := cmpf .olt main_v39 main_v40
  let main_v42 : FVec F S4096x1024 .f32 := Host.absf main_arg14
  let main_cst_13 : FVec F S_ .f32 := constant S_ .f32 0x7F800000#32
  let main_v43 : FVec F S4096x1024 .f32 := broadcastInDim S4096x1024 ![] bcast_S_S4096x1024 main_cst_13
  let main_v44 : IVec S4096x1024 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S1024x1024 .f32) (main_arg13 : FVec F S1024x4096 .f32) (main_arg14 : FVec F S4096x1024 .f32) (main_v2 : IVec S4096x1024 1) (main_v5 : IVec S4096x512 1) (main_v8 : IVec S4096x512 1) (main_v11 : IVec S4096x1024 1) (main_v14 : IVec S1x1024 1) (main_v17 : IVec S1x1024 1) : IVec S4096x1024 1 × IVec S4096x512 1 × IVec S4096x512 1 × IVec S4096x1024 1 × IVec S1x1024 1 × IVec S1x1024 1 × IVec S1x1024 1 × IVec S1x1024 1 × IVec S1x1024 1 × IVec S1x1024 1 × IVec S1x1024 1 × IVec S1x1024 1 × IVec S1024x1024 1 × IVec S1024x4096 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S1x1024 .f32 := Host.absf main_arg11
  let main_cst_10 : FVec F S_ .f32 := constant S_ .f32 0x7F800000#32
  let main_v34 : FVec F S1x1024 .f32 := broadcastInDim S1x1024 ![] bcast_S_S1x1024 main_cst_10
  let main_v35 : IVec S1x1024 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S4096x1024 .f32) (main_arg1 : FVec F S4096x512 .f32) (main_arg2 : FVec F S4096x512 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S1024x1024 .f32) (main_arg13 : FVec F S1024x4096 .f32) (main_arg14 : FVec F S4096x1024 .f32) : IVec S4096x1024 1 × IVec S4096x512 1 × IVec S4096x512 1 × IVec S4096x1024 1 × IVec S1x1024 1 × IVec S1x1024 1 × IVec S1x1024 1 × IVec S1x1024 1 × IVec S1x1024 1 × IVec S1x1024 1 × IVec S1x1024 1 × IVec S1x1024 1 × IVec S1024x1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_arg12 main_arg13 main_arg14 main_v2 main_v5 main_v8 main_v11 main_v14 main_v17
-- ==== Pre_finite6.lean ====
abbrev S4096x2048 : Shape := ⟨2, ![4096, 2048]⟩
abbrev S2x512 : Shape := ⟨2, ![2, 512]⟩
abbrev S1x512 : Shape := ⟨2, ![1, 512]⟩
abbrev S4096x512 : Shape := ⟨2, ![4096, 512]⟩
abbrev S4096x1024 : Shape := ⟨2, ![4096, 1024]⟩
abbrev S4x64x128x128 : Shape := ⟨4, ![4, 64, 128, 128]⟩
abbrev S_ : Shape := ⟨0, ![]⟩

class Facts : Prop where
  bcast_S_S4096x2048 : S_.BroadcastsInDim S4096x2048 (![] : Fin 0 → Fin S4096x2048.rank)
  bcast_S_S1x512 : S_.BroadcastsInDim S1x512 (![] : Fin 0 → Fin S1x512.rank)
  bcast_S_S4096x512 : S_.BroadcastsInDim S4096x512 (![] : Fin 0 → Fin S4096x512.rank)
  bcast_S_S4096x1024 : S_.BroadcastsInDim S4096x1024 (![] : Fin 0 → Fin S4096x1024.rank)

variable [Facts]

def fn {F : FTy → Type} [FloatOps F] (main_arg0 : FVec F S4096x2048 .f32) (main_arg1 : FVec F S2x512 .f32) (main_arg2 : FVec F S1x512 .f32) (main_arg3 : FVec F S4096x512 .f32) (main_arg4 : FVec F S4096x1024 .f32) (main_arg5 : FVec F S4x64x128x128 .f32) : IVec S4096x2048 1 × IVec S1x512 1 × IVec S4096x512 1 × IVec S4096x1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x512 .f32 := Host.absf main_arg2
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S4096x512 .f32 := Host.absf main_arg3
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x4x1024 : Shape := ⟨3, ![512, 4, 1024]⟩
abbrev S4x512x1024 : Shape := ⟨3, ![4, 512, 1024]⟩
abbrev S4x1024x1024 : Shape := ⟨3, ![4, 1024, 1024]⟩
abbrev S8x1024 : Shape := ⟨2, ![8, 1024]⟩
abbrev S4096x4096 : Shape := ⟨2, ![4096, 4096]⟩
abbrev S16x1024 : Shape := ⟨2, ![16, 1024]⟩
abbrev S4x1x4096 : Shape := ⟨3, ![4, 1, 4096]⟩
abbrev S256x1024 : Shape := ⟨2, ![256, 1024]⟩
abbrev S256x1 : Shape := ⟨2, ![256, 1]⟩
abbrev S256x512 : Shape := ⟨2, ![256, 512]⟩
abbrev S256x4096 : Shape := ⟨2, ![256, 4096]⟩
abbrev S4x1x256 : Shape := ⟨3, ![4, 1, 256]⟩
abbrev S4x256x1024 : Shape := ⟨3, ![4, 256, 1024]⟩
abbrev S4 : Shape := ⟨1, ![4]⟩
abbrev S1 : Shape := ⟨1, ![1]⟩
abbrev S1x1024x1024 : Shape := ⟨3, ![1, 1024, 1024]⟩
abbrev S1x256x1024 : Shape := ⟨3, ![1, 256, 1024]⟩
abbrev S256 : Shape := ⟨1, ![256]⟩
abbrev S1x256x1 : Shape := ⟨3, ![1, 256, 1]⟩
abbrev S1x1x1 : Shape := ⟨3, ![1, 1, 1]⟩
abbrev S1024 : Shape := ⟨1, ![1024]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 68
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S512x4096, .f32⟩
  | .hbm, ⟨48, _⟩ => ⟨S512x4096, .bf16⟩
  | .hbm, ⟨49, _⟩ => ⟨S512x4x1024, .bf16⟩
  | .hbm, ⟨50, _⟩ => ⟨S4x512x1024, .bf16⟩
  | .hbm, ⟨51, _⟩ => ⟨S512x4096, .f32⟩
  | .hbm, ⟨52, _⟩ => ⟨S512x4096, .bf16⟩
  | .hbm, ⟨53, _⟩ => ⟨S512x4x1024, .bf16⟩
  | .hbm, ⟨54, _⟩ => ⟨S4x512x1024, .bf16⟩
  | .hbm, ⟨55, _⟩ => ⟨S4096x1024, .bf16⟩
  | .hbm, ⟨56, _⟩ => ⟨S4x1024x1024, .bf16⟩
  | .hbm, ⟨57, _⟩ => ⟨S1024x1024, .bf16⟩
  | .hbm, ⟨58, _⟩ => ⟨S8x1024, .f32⟩
  | .hbm, ⟨59, _⟩ => ⟨S4096x4096, .bf16⟩
  | .hbm, ⟨60, _⟩ => ⟨S4096x4096, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .f32⟩
  | .hbm, ⟨65, _⟩ => ⟨S4096x1024, .f32⟩
  | .hbm, ⟨66, _⟩ => ⟨S16x1024, .f32⟩
  | .hbm, ⟨67, _⟩ => ⟨S4x1x4096, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S8x1024, .f32⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S16x1024, .f32⟩
  | .local _ .vmem, ⟨26, _⟩ => ⟨S4x1x256, .f32⟩
  | .local _ .vmem, ⟨27, _⟩ => ⟨S4x1x256, .f32⟩
  | .local _ .vmem, ⟨28, _⟩ => ⟨S4x1024x1024, .bf16⟩
  | .local _ .vmem, ⟨29, _⟩ => ⟨S4x1024x1024, .bf16⟩
  | .local _ .vmem, ⟨30, _⟩ => ⟨S1024x1024, .bf16⟩
  | .local _ .vmem, ⟨31, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev main_v37_3 : Ref sig .tc := ⟨.hbm, 62, rfl⟩
abbrev main_v37_4 : Ref sig .tc := ⟨.hbm, 63, rfl⟩
abbrev main_v37_5 : Ref sig .tc := ⟨.hbm, 64, rfl⟩
abbrev main_v37_6 : Ref sig .tc := ⟨.hbm, 65, rfl⟩
abbrev main_v37_7 : Ref sig .tc := ⟨.hbm, 66, rfl⟩
abbrev main_v37_8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S16x1024 : Shape := ⟨2, ![16, 1024]⟩
abbrev S4096x4x128 : Shape := ⟨3, ![4096, 4, 128]⟩
abbrev S4096x4 : Shape := ⟨2, ![4096, 4]⟩
abbrev S4x4096 : Shape := ⟨2, ![4, 4096]⟩
abbrev S4x1x4096 : Shape := ⟨3, ![4, 1, 4096]⟩

abbrev nBuf : Space → Nat
  | .hbm => 268
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1024x1024, .f32⟩
  | 13 => ⟨S1024x4096, .f32⟩
  | 14 => ⟨S4096x1024, .f32⟩
  | 15 => ⟨S4096x1024, .f32⟩
  | 16 => ⟨S_, .f32⟩
  | 17 => ⟨S4096x1024, .f32⟩
  | 18 => ⟨S_, .f32⟩
  | 19 => ⟨S4096x4096, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S1x1024, .f32⟩
  | 27 => ⟨S1x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S1x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S_, .f32⟩
  | 74 => ⟨S4096x4096, .f32⟩
  | 75 => ⟨S4096x4096, .i1⟩
  | 76 => ⟨S_, .f32⟩
  | 77 => ⟨S4096x4096, .f32⟩
  | 78 => ⟨S4096x4096, .f32⟩
  | 79 => ⟨S_, .f32⟩
  | 80 => ⟨S4096x4096, .f32⟩
  | 81 => ⟨S4096x4096, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S1x1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S4096x1024, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096x1, .f32⟩
  | 110 => ⟨S4096x1, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096, .f32⟩
  | 12 => ⟨S_, .f32⟩
  | 13 => ⟨S4096, .f32⟩
  | 14 => ⟨S4096, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S_, .f32⟩
  | 22 => ⟨S1024, .f32⟩
  | 23 => ⟨S1x1024, .f32⟩
  | 24 => ⟨S4096x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S4096x1024, .f32⟩
  | 31 => ⟨S4096x1024, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S1024, .f32⟩
  | 59 => ⟨S1x1024, .f32⟩
  | 60 => ⟨S_, .f32⟩
  | 61 => ⟨S4096x1024, .f32⟩
  | 62 => ⟨S4096x1024, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S1x1024, .f32⟩
  | 124 => ⟨S_, .f32⟩
  | 125 => ⟨S7x1024, .f32⟩
  | 126 => ⟨S16x1024, .f32⟩
  | 127 => ⟨S4096x512, .f32⟩
  | _ => ⟨S4096x1024, .f32⟩

abbrev hbmTy0_2 (i : Nat) : BufTy := match i % 128 with
  | 0 => ⟨S4096x4x128, .f32⟩
  | 1 => ⟨S4096x4x128, .f32⟩
  | 2 => ⟨S4096x4x128, .f32⟩
  | 3 => ⟨S_, .f32⟩
  | 4 => ⟨S4096x4, .f32⟩
  | 5 => ⟨S4x4096, .f32⟩
  | 6 => ⟨S4x1x4096, .f32⟩
  | 7 => ⟨S4096x4096, .bf16⟩
  | 8 => ⟨S4096x4096, .bf16⟩
  | 9 => ⟨S4096x1024, .bf16⟩
  | 10 => ⟨S4096x1024, .bf16⟩
  | 11 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_v69 : Ref sig .tc := ⟨.hbm, 106, rfl⟩
abbrev main_v70 : Ref sig .tc := ⟨.hbm, 107, rfl⟩
abbrev main_cst_19 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_20 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_cst_22 : Ref sig .tc := ⟨.hbm, 127, rfl⟩
abbrev main_v87 : Ref sig .tc := ⟨.hbm, 128, rfl⟩
abbrev main_cst_23 : Ref sig .tc := ⟨.hbm, 129, rfl⟩
abbrev main_v88 : Ref sig .tc := ⟨.hbm, 130, rfl⟩
abbrev main_v89 : Ref sig .tc := ⟨.hbm, 131, rfl⟩
abbrev main_cst_24 : Ref sig .tc := ⟨.hbm, 132, rfl⟩
abbrev main_v90 : Ref sig .tc := ⟨.hbm, 133, rfl⟩
abbrev main_cst_25 : Ref sig .tc := ⟨.hbm, 134, rfl⟩
abbrev main_v91 : Ref sig .tc := ⟨.hbm, 135, rfl⟩
abbrev main_cst_26 : Ref sig .tc := ⟨.hbm, 136, rfl⟩
abbrev main_cst_27 : Ref sig .tc := ⟨.hbm, 137, rfl⟩
abbrev main_v92 : Ref sig .tc := ⟨.hbm, 138, rfl⟩
abbrev main_v93 : Ref sig .tc := ⟨.hbm, 139, rfl⟩
abbrev main_cst_28 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_29 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_30 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_31 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_32 : Ref sig .tc := ⟨.hbm, 161, rfl⟩
abbrev main_v111 : Ref sig .tc := ⟨.hbm, 162, rfl⟩
abbrev main_v112 : Ref sig .tc := ⟨.hbm, 163, rfl⟩
abbrev main_cst_33 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_34 : Ref sig .tc := ⟨.hbm, 172, rfl⟩
abbrev main_v120 : Ref sig .tc := ⟨.hbm, 173, rfl⟩
abbrev main_v121 : Ref sig .tc := ⟨.hbm, 174, rfl⟩
abbrev main_cst_35 : Ref sig .tc := ⟨.hbm, 175, rfl⟩
abbrev main_v122 : Ref sig .tc := ⟨.hbm, 176, rfl⟩
abbrev main_v123 : Ref sig .tc := ⟨.hbm, 177, rfl⟩
abbrev main_cst_36 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_37 : Ref sig .tc := ⟨.hbm, 185, rfl⟩
abbrev main_v130 : Ref sig .tc := ⟨.hbm, 186, rfl⟩
abbrev main_v131 : Ref sig .tc := ⟨.hbm, 187, rfl⟩
abbrev main_cst_38 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_39 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_40 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_41 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_42 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_43 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_44 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_45 : Ref sig .tc := ⟨.hbm, 223, rfl⟩
abbrev main_v160 : Ref sig .tc := ⟨.hbm, 224, rfl⟩
abbrev main_v161 : Ref sig .tc := ⟨.hbm, 225, rfl⟩
abbrev main_cst_46 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_47 : Ref sig .tc := ⟨.hbm, 234, rfl⟩
abbrev main_v169 : Ref sig .tc := ⟨.hbm, 235, rfl⟩
abbrev main_v170 : Ref sig .tc := ⟨.hbm, 236, rfl⟩
abbrev main_cst_48 : Ref sig .tc := ⟨.hbm, 237, rfl⟩
abbrev main_v171 : Ref sig .tc := ⟨.hbm, 238, rfl⟩
abbrev main_v172 : Ref sig .tc := ⟨.hbm, 239, rfl⟩
abbrev main_cst_49 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_50 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_51 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_52 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8x1024 : Shape := ⟨2, ![8, 1024]⟩
abbrev S8x1536 : Shape := ⟨2, ![8, 1536]⟩
abbrev S_ : Shape := ⟨0, ![]⟩
abbrev S16x1024 : Shape := ⟨2, ![16, 1024]⟩
abbrev S16x1536 : Shape := ⟨2, ![16, 1536]⟩
abbrev S1x1024x1536 : Shape := ⟨3, ![1, 1024, 1536]⟩
abbrev S1024x1536 : Shape := ⟨2, ![1024, 1536]⟩

abbrev nBuf : Space → Nat
  | .hbm => 18
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S16x1024, .f32⟩
  | .hbm, ⟨14, _⟩ => ⟨S_, .f32⟩
  | .hbm, ⟨15, _⟩ => ⟨S8x1536, .f32⟩
  | .hbm, ⟨16, _⟩ => ⟨S16x1536, .f32⟩
  | .hbm, ⟨17, _⟩ => ⟨S1x1024x1536, .f32⟩
  | .local _ .vmem, ⟨0, _⟩ => ⟨S16x1024, .f32⟩
  | .local _ .vmem, ⟨1, _⟩ => ⟨S16x1536, .f32⟩
  | .local _ .vmem, ⟨2, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1536, .f32⟩
  | .hbm, ⟨14, _⟩ => ⟨S1536x1024, .f32⟩
  | .hbm, ⟨15, _⟩ => ⟨S1024x1536, .f32⟩
  | .hbm, ⟨16, _⟩ => ⟨S1x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2688 : Shape := ⟨2, ![4096, 2688]⟩
abbrev S4096x1024 : Shape := ⟨2, ![4096, 1024]⟩
abbrev S3x896x1024 : Shape := ⟨3, ![3, 896, 1024]⟩
abbrev S4096x896 : Shape := ⟨2, ![4096, 896]⟩
abbrev S1x896x1024 : Shape := ⟨3, ![1, 896, 1024]⟩
abbrev S896x1024 : Shape := ⟨2, ![896, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .bf16⟩
  | .hbm, ⟨2, _⟩ => ⟨S3x896x1024, .f32⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S1x896x1024, .f32⟩
  | .local _ .vmem, ⟨4, _⟩ => ⟨S1x896x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2688 : Shape := ⟨2, ![4096, 2688]⟩
abbrev S4096x1024 : Shape := ⟨2, ![4096, 1024]⟩
abbrev S_ : Shape := ⟨0, ![]⟩
abbrev S1024x2688 : Shape := ⟨2, ![1024, 2688]⟩
abbrev S2688x1024 : Shape := ⟨2, ![2688, 1024]⟩
abbrev S3x896x1024 : Shape := ⟨3, ![3, 896, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .bf16⟩
  | .hbm, ⟨2, _⟩ => ⟨S_, .f32⟩
  | .hbm, ⟨3, _⟩ => ⟨S1024x2688, .f32⟩
  | .hbm, ⟨4, _⟩ => ⟨S4096x1024, .f32⟩
  | .hbm, ⟨5, _⟩ => ⟨S4096x2688, .f32⟩
  | .hbm, ⟨6, _⟩ => ⟨S4096x2688, .f32⟩
  | .hbm, ⟨7, _⟩ => ⟨S2688x1024, .f32⟩
  | .hbm, ⟨8, _⟩ => ⟨S1024x2688, .f32⟩
  | .hbm, ⟨9, _⟩ => ⟨S2688x1024, .f32⟩
  | .hbm, ⟨10, _⟩ => ⟨S3x896x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2x512 : Shape := ⟨2, ![2, 512]⟩
abbrev S1x512 : Shape := ⟨2, ![1, 512]⟩
abbrev S4096x512 : Shape := ⟨2, ![4096, 512]⟩
abbrev S4096x1024 : Shape := ⟨2, ![4096, 1024]⟩
abbrev S4x64x128x128 : Shape := ⟨4, ![4, 64, 128, 128]⟩
abbrev S8x512 : Shape := ⟨2, ![8, 512]⟩
abbrev S512x512 : Shape := ⟨2, ![512, 512]⟩
abbrev S4x8x128x128 : Shape := ⟨4, ![4, 8, 128, 128]⟩
abbrev S4x128x128 : Shape := ⟨3, ![4, 128, 128]⟩
abbrev S64x64 : Shape := ⟨2, ![64, 64]⟩
abbrev S64x128 : Shape := ⟨2, ![64, 128]⟩
abbrev S2x128 : Shape := ⟨2, ![2, 128]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S64x384 : Shape := ⟨2, ![64, 384]⟩
abbrev S8x64x128 : Shape := ⟨3, ![8, 64, 128]⟩
abbrev S8x1x128 : Shape := ⟨3, ![8, 1, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 11
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S2x512, .f32⟩
  | .hbm, ⟨2, _⟩ => ⟨S1x512, .f32⟩
  | .hbm, ⟨3, _⟩ => ⟨S4096x512, .f32⟩
  | .hbm, ⟨4, _⟩ => ⟨S4096x1024, .f32⟩
  | .hbm, ⟨5, _⟩ => ⟨S4x64x128x128, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S4x8x128x128, .f32⟩
  | .local _ .vmem, ⟨15, _⟩ => ⟨S4x8x128x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S4x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.addi c3_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Reference6Ideal.lean ====
abbrev S4096x2048 : Shape := ⟨2, ![4096, 2048]⟩
abbrev S2x512 : Shape := ⟨2, ![2, 512]⟩
abbrev S1x512 : Shape := ⟨2, ![1, 512]⟩
abbrev S4096x512 : Shape := ⟨2, ![4096, 512]⟩
abbrev S4096x1024 : Shape := ⟨2, ![4096, 1024]⟩
abbrev S4x64x128x128 : Shape := ⟨4, ![4, 64, 128, 128]⟩
abbrev S4096x4x128 : Shape := ⟨3, ![4096, 4, 128]⟩
abbrev S4x128 : Shape := ⟨2, ![4, 128]⟩
abbrev S_ : Shape := ⟨0, ![]⟩
abbrev S4096x4 : Shape := ⟨2, ![4096, 4]⟩
abbrev S4096x4x1 : Shape := ⟨3, ![4096, 4, 1]⟩
abbrev S1x4x128 : Shape := ⟨3, ![1, 4, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x512, .f32⟩
  | .hbm, ⟨2, _⟩ => ⟨S1x512, .f32⟩
  | .hbm, ⟨3, _⟩ => ⟨S4096x512, .f32⟩
  | .hbm, ⟨4, _⟩ => ⟨S4096x1024, .f32⟩
  | .hbm, ⟨5, _⟩ => ⟨S4x64x128x128, .f32⟩
  | .hbm, ⟨6, _⟩ => ⟨S4096x512, .f32⟩
  | .hbm, ⟨7, _⟩ => ⟨S4096x4x128, .f32⟩
  | .hbm, ⟨8, _⟩ => ⟨S4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x4x128, .f32⟩
  | .hbm, ⟨23, _⟩ => ⟨S4096x4x128, .f32⟩
  | .hbm, ⟨24, _⟩ => ⟨S4096x4x128, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x4x128, .f32⟩
  | .hbm, ⟨39, _⟩ => ⟨S4096x4x128, .f32⟩
  | .hbm, ⟨40, _⟩ => ⟨S4096x512, .f32⟩
  | .hbm, ⟨41, _⟩ => ⟨S4096x512, .f32⟩
  | .hbm, ⟨42, _⟩ => ⟨S4096x4x128, .f32⟩
  | .hbm, ⟨43, _⟩ => ⟨S4096x4x128, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩

abbrev nD : Nat := 1
abbrev τ : Topo := Topo.v7x

variable {F : FTy → Type} [FloatOps F]
-- ==== Proof.RunA.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option sl_exec.dmaWindowSet true in
set_option sl_exec.dmaWindow true in
set_option sl_exec.dmaWindowLent true in
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x512 .f32) (harg5 : arg5.IsWhole) (arg6 : Memref sig .tc .vmem S8x1024 .f32) (harg6 : arg6.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S16x1024 .f32) (harg18 : arg18.IsWhole) (arg19 : Memref sig .tc .vmem S4x1x256 .f32) (harg19 : arg19.IsWhole) (arg20 : Memref sig .tc .vmem S4x1024x1024 .bf16) (harg20 : arg20.IsWhole) (arg21 : Memref sig .tc .vmem S4x1024x1024 .bf16) (harg21 : arg21.IsWhole) (arg22 : Memref sig .tc .vmem S1024x1024 .bf16) (harg22 : arg22.IsWhole) (arg23 : Memref sig .tc .vmem S4x256x1024 .f32) (harg23 : arg23.IsWhole) (hc0 : cond0_0 i)
    (x0 : Vec F S256x1024 .f32) (x1 : Vec F S256x1 .f32) (x2 : Vec F S256x1024 .f32) (x3 : Vec F S256x1024 .f32) (x4 : Vec F S256x512 .f32) (x5 : Vec F S8x1024 .f32) (fh0 : HbBuf0 (F := F) c hbM0_0) (fh1 : HbBuf0 (F := F) c hbM0_1) (fh2 : HbBuf0 (F := F) c hbM0_2) (fh3 : HbBuf0 (F := F) c hbM0_3) :
    Σ' (L6 : List (View.Piece (Elt F) S256x4096 .bf16)), Σ' (L7 : List (View.Piece (Elt F) S256x4096 .bf16)), Σ' (L8 : List (View.Piece (Elt F) S256x1024 .bf16)), Σ' (L9 : List (View.Piece (Elt F) S256x1024 .bf16)), Σ' (L10 : List (View.Piece (Elt F) S256x1024 .bf16)), Σ' (L11 : List (View.Piece (Elt F) S256x1024 .f32)), Σ' (L12 : List (View.Piece (Elt F) S256x1024 .f32)), Σ' (L13 : List (View.Piece (Elt F) S16x1024 .f32)), Σ' (L14 : List (View.Piece (Elt F) S4x1x256 .f32)), Σ' (LS0 : List (View.Piece (Elt F) S4x1024x1024 .bf16)), Σ' (LS1 : List (View.Piece (Elt F) S4x1024x1024 .bf16)), Σ' (LS2 : List (View.Piece (Elt F) S1024x1024 .bf16)), { LT3 : List (View.Piece (Elt F) S4x256x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LT3) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_and_back i arg1 harg1 arg2 harg2 arg3 harg3 arg4 harg4 arg5 harg5 arg6 harg6 (Memref.whole main_v28) (Memref.isWhole_whole _) (Memref.whole main_v32) (Memref.isWhole_whole _) (Memref.whole main_v34) (Memref.isWhole_whole _) (Memref.whole main_v35) (Memref.isWhole_whole _) arg11 harg11 arg12 harg12 arg13 harg13 arg14 harg14 arg15 harg15 arg16 harg16 arg17 harg17 arg18 harg18 arg19 harg19 arg20 harg20 arg21 harg21 arg22 harg22 arg23 harg23 cc0_scratch4) K } := by
  refine ⟨?_, ?_, ?_, ?_, ?_, ?_, ?_, ?_, ?_, ?_, ?_, ?_, ?_, fun W K => ?run⟩
  case run =>
    simp only [cc0_mlp_and_back_eq_skeleton]; unfold cc0_mlp_and_back_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 15: 15 of 16), WITH the
    proof that on whole staging memrefs — the inputs' at their contents, the outputs it reads before covering (13) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x512 .f32) (harg5 : arg5.IsWhole) (arg6 : Memref sig .tc .vmem S8x1024 .f32) (harg6 : arg6.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S16x1024 .f32) (harg18 : arg18.IsWhole) (arg19 : Memref sig .tc .vmem S4x1x256 .f32) (harg19 : arg19.IsWhole) (arg20 : Memref sig .tc .vmem S4x1024x1024 .bf16) (harg20 : arg20.IsWhole) (arg21 : Memref sig .tc .vmem S4x1024x1024 .bf16) (harg21 : arg21.IsWhole) (arg22 : Memref sig .tc .vmem S1024x1024 .bf16) (harg22 : arg22.IsWhole) (arg23 : Memref sig .tc .vmem S4x256x1024 .f32) (harg23 : arg23.IsWhole) (hc0 : ¬cond0_0 i)
    (x0 : Vec F S256x1024 .f32) (x1 : Vec F S256x1 .f32) (x2 : Vec F S256x1024 .f32) (x3 : Vec F S256x1024 .f32) (x4 : Vec F S256x512 .f32) (x5 : Vec F S8x1024 .f32) (xo13 : Vec F S16x1024 .f32) (xs0 : Vec F S4x1024x1024 .bf16) (xs1 : Vec F S4x1024x1024 .bf16) (xs2 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    Σ' (L6 : List (View.Piece (Elt F) S256x4096 .bf16)), Σ' (L7 : List (View.Piece (Elt F) S256x4096 .bf16)), Σ' (L8 : List (View.Piece (Elt F) S256x1024 .bf16)), Σ' (L9 : List (View.Piece (Elt F) S256x1024 .bf16)), Σ' (L10 : List (View.Piece (Elt F) S256x1024 .bf16)), Σ' (L11 : List (View.Piece (Elt F) S256x1024 .f32)), Σ' (L12 : List (View.Piece (Elt F) S256x1024 .f32)), Σ' (L13 : List (View.Piece (Elt F) S16x1024 .f32)), Σ' (L14 : List (View.Piece (Elt F) S4x1x256 .f32)), Σ' (LS0 : List (View.Piece (Elt F) S4x1024x1024 .bf16)), Σ' (LS1 : List (View.Piece (Elt F) S4x1024x1024 .bf16)), Σ' (LS2 : List (View.Piece (Elt F) S1024x1024 .bf16)), { LT3 : List (View.Piece (Elt F) S4x256x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo13 ∗ (∃ d, owns (c : Thread nD τ) arg19 fullShare d) ∗ owns (c : Thread nD τ) arg20 fullShare xs0 ∗ owns (c : Thread nD τ) arg21 fullShare xs1 ∗ owns (c : Thread nD τ) arg22 fullShare xs2 ∗ (∃ d, owns (c : Thread nD τ) arg23 fullShare d) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (arg18.view.loc (c : Thread nD τ) ↦[arg18.view.set]{fullShare} arg18.view.writes (Elt F) (harg18.unread xo13) L13) ∗ (∃ f, arg19.view.loc (c : Thread nD τ) ↦[arg19.view.set]{fullShare} arg19.view.writes (Elt F) f L14) ∗ owns (c : Thread nD τ) arg20 fullShare xs0 ∗ owns (c : Thread nD τ) arg21 fullShare xs1 ∗ owns (c : Thread nD τ) arg22 fullShare xs2 ∗ (∃ f, arg23.view.loc (c : Thread nD τ) ↦[arg23.view.set]{fullShare} arg23.view.writes (Elt F) f LT3) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mlp_and_back i arg1 harg1 arg2 harg2 arg3 harg3 arg4 harg4 arg5 harg5 arg6 harg6 (Memref.whole main_v28) (Memref.isWhole_whole _) (Memref.whole main_v32) (Memref.isWhole_whole _) (Memref.whole main_v34) (Memref.isWhole_whole _) (Memref.whole main_v35) (Memref.isWhole_whole _) arg11 harg11 arg12 harg12 arg13 harg13 arg14 harg14 arg15 harg15 arg16 harg16 arg17 harg17 arg18 harg18 arg19 harg19 arg20 harg20 arg21 harg21 arg22 harg22 arg23 harg23 cc0_scratch4) K } := by
  refine ⟨?_, ?_, ?_, ?_, ?_, ?_, ?_, ?_, ?_, [], [], [], ?_, fun W K => ?run⟩
  case run =>
    simp only [cc0_mlp_and_back_eq_skeleton]; unfold cc0_mlp_and_back_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%d14, %f14, -, H14⟩, ⟨%fs0, %hfs0, HS0⟩, ⟨%fs1, %hfs1, HS1⟩, ⟨%fs2, %hfs2, HS2⟩, ⟨%ds3, %fs3, -, HS3⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg18.eq_unread hf13; obtain rfl := harg20.eq_unread hfs0; obtain rfl := harg21.eq_unread hfs1; obtain rfl := harg22.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexists _; iexact H14
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.FrameCases.lean ====
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's run at the first point, at that point's memrefs and input blocks. -/
def runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (V m c main_v28) (V m c main_v32) (V m c main_v34) (V m c main_v35)

/-- The body's run at a later point, over the sums and the weights the point before left. -/
def runB (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) xo13 xs0 xs1 xs2 (V m c main_v28) (V m c main_v32) (V m c main_v34) (V m c main_v35)

/-- At the first point the stores into output window 6 cover it. -/
theorem cover0_A_6 (c : Dev nD) (t : Fin cfg0.N) (h0 : t.val % 16 = 0) (y : S256x4096.Idx) : ∃ pc ∈ (runA m c t h0).1, y ∈ pc.1.set :=
  View.cover_of_tiledL (runA m c t h0).1 S256x1024.size (by sl_kernel_rfl) y

/-- What the first point leaves in output window 6. -/
def out0_A_6 (c : Dev nD) (t : Fin cfg0.N) (h0 : t.val % 16 = 0) : Vec F S256x4096 .bf16 :=
  VO0_6.read (Elt F) (VO0_6.writes (Elt F) VO0_6.junk (runA m c t h0).1)

/-- At the first point the stores into output window 7 cover it. -/
theorem cover0_A_7 (c : Dev nD) (t : Fin cfg0.N) (h0 : t.val % 16 = 0) (y : S256x4096.Idx) : ∃ pc ∈ (runA m c t h0).2.1, y ∈ pc.1.set :=
  View.cover_of_tiledL (runA m c t h0).2.1 S256x1024.size (by sl_kernel_rfl) y

/-- What the first point leaves in output window 7. -/
def out0_A_7 (c : Dev nD) (t : Fin cfg0.N) (h0 : t.val % 16 = 0) : Vec F S256x4096 .bf16 :=
  VO0_7.read (Elt F) (VO0_7.writes (Elt F) VO0_7.junk (runA m c t h0).2.1)

/-- At the first point the stores into output window 8 cover it. -/
theorem cover0_A_8 (c : Dev nD) (t : Fin cfg0.N) (h0 : t.val % 16 = 0) (y : S256x1024.Idx) : ∃ pc ∈ (runA m c t h0).2.2.1, y ∈ pc.1.set :=
  View.cover_of_tiledL (runA m c t h0).2.2.1 S256x1024.size (by sl_kernel_rfl) y

/-- What the first point leaves in output window 8. -/
def out0_A_8 (c : Dev nD) (t : Fin cfg0.N) (h0 : t.val % 16 = 0) : Vec F S256x1024 .bf16 :=
  VO0_8.read (Elt F) (VO0_8.writes (Elt F) VO0_8.junk (runA m c t h0).2.2.1)

/-- At the first point the stores into output window 9 cover it. -/
theorem cover0_A_9 (c : Dev nD) (t : Fin cfg0.N) (h0 : t.val % 16 = 0) (y : S256x1024.Idx) : ∃ pc ∈ (runA m c t h0).2.2.2.1, y ∈ pc.1.set :=
  View.cover_of_tiledL (runA m c t h0).2.2.2.1 S256x1024.size (by sl_kernel_rfl) y

/-- What the first point leaves in output window 9. -/
def out0_A_9 (c : Dev nD) (t : Fin cfg0.N) (h0 : t.val % 16 = 0) : Vec F S256x1024 .bf16 :=
  VO0_9.read (Elt F) (VO0_9.writes (Elt F) VO0_9.junk (runA m c t h0).2.2.2.1)

/-- At the first point the stores into output window 10 cover it. -/
theorem cover0_A_10 (c : Dev nD) (t : Fin cfg0.N) (h0 : t.val % 16 = 0) (y : S256x1024.Idx) : ∃ pc ∈ (runA m c t h0).2.2.2.2.1, y ∈ pc.1.set :=
  View.cover_of_tiledL (runA m c t h0).2.2.2.2.1 S256x1024.size (by sl_kernel_rfl) y

/-- What the first point leaves in output window 10. -/
def out0_A_10 (c : Dev nD) (t : Fin cfg0.N) (h0 : t.val % 16 = 0) : Vec F S256x1024 .bf16 :=
  VO0_10.read (Elt F) (VO0_10.writes (Elt F) VO0_10.junk (runA m c t h0).2.2.2.2.1)

/-- At the first point the stores into output window 11 cover it. -/
theorem cover0_A_11 (c : Dev nD) (t : Fin cfg0.N) (h0 : t.val % 16 = 0) (y : S256x1024.Idx) : ∃ pc ∈ (runA m c t h0).2.2.2.2.2.1, y ∈ pc.1.set :=
  View.cover_of_tiledL (runA m c t h0).2.2.2.2.2.1 S256x1024.size (by sl_kernel_rfl) y

/-- What the first point leaves in output window 11. -/
def out0_A_11 (c : Dev nD) (t : Fin cfg0.N) (h0 : t.val % 16 = 0) : Vec F S256x1024 .f32 :=
  VO0_11.read (Elt F) (VO0_11.writes (Elt F) VO0_11.junk (runA m c t h0).2.2.2.2.2.1)

/-- At the first point the stores into output window 12 cover it. -/
theorem cover0_A_12 (c : Dev nD) (t : Fin cfg0.N) (h0 : t.val % 16 = 0) (y : S256x1024.Idx) : ∃ pc ∈ (runA m c t h0).2.2.2.2.2.2.1, y ∈ pc.1.set :=
  View.cover_of_tiledL (runA m c t h0).2.2.2.2.2.2.1 S256x1024.size (by sl_kernel_rfl) y

/-- What the first point leaves in output window 12. -/
def out0_A_12 (c : Dev nD) (t : Fin cfg0.N) (h0 : t.val % 16 = 0) : Vec F S256x1024 .f32 :=
  VO0_12.read (Elt F) (VO0_12.writes (Elt F) VO0_12.junk (runA m c t h0).2.2.2.2.2.2.1)

/-- At the first point the stores into output window 13 cover it. -/
theorem cover0_A_13 (c : Dev nD) (t : Fin cfg0.N) (h0 : t.val % 16 = 0) (y : S16x1024.Idx) : ∃ pc ∈ (runA m c t h0).2.2.2.2.2.2.2.1, y ∈ pc.1.set :=
  View.cover_of_tiledBy (runA m c t h0).2.2.2.2.2.2.2.1 ![1, 1024] (by sl_kernel_rfl) y

/-- What the first point leaves in output window 13. -/
def out0_A_13 (c : Dev nD) (t : Fin cfg0.N) (h0 : t.val % 16 = 0) : Vec F S16x1024 .f32 :=
  VO0_13.read (Elt F) (VO0_13.writes (Elt F) VO0_13.junk (runA m c t h0).2.2.2.2.2.2.2.1)

/-- At the first point the stores into output window 14 cover it. -/
theorem cover0_A_14 (c : Dev nD) (t : Fin cfg0.N) (h0 : t.val % 16 = 0) (y : S4x1x256.Idx) : ∃ pc ∈ (runA m c t h0).2.2.2.2.2.2.2.2.1, y ∈ pc.1.set :=
  View.cover_of_tiledL (runA m c t h0).2.2.2.2.2.2.2.2.1 S1x1x256.size (by sl_kernel_rfl) y

/-- What the first point leaves in output window 14. -/
def out0_A_14 (c : Dev nD) (t : Fin cfg0.N) (h0 : t.val % 16 = 0) : Vec F S4x1x256 .f32 :=
  VO0_14.read (Elt F) (VO0_14.writes (Elt F) VO0_14.junk (runA m c t h0).2.2.2.2.2.2.2.2.1)

/-- At the first point the stores into carried scratch 0 cover it. -/
theorem scover0_A_0 (c : Dev nD) (t : Fin cfg0.N) (h0 : t.val % 16 = 0) (y : S4x1024x1024.Idx) : ∃ pc ∈ (runA m c t h0).2.2.2.2.2.2.2.2.2.1, y ∈ pc.1.set :=
  View.cover_of_tiledL (runA m c t h0).2.2.2.2.2.2.2.2.2.1 S4x512x1024.size (by sl_kernel_rfl) y

/-- What the first point leaves in carried scratch 0. -/
def sout0_A_0 (c : Dev nD) (t : Fin cfg0.N) (h0 : t.val % 16 = 0) : Vec F S4x1024x1024 .bf16 :=
  VS0_0.read (Elt F) (VS0_0.writes (Elt F) VS0_0.junk (runA m c t h0).2.2.2.2.2.2.2.2.2.1)

/-- At the first point the stores into carried scratch 1 cover it. -/
theorem scover0_A_1 (c : Dev nD) (t : Fin cfg0.N) (h0 : t.val % 16 = 0) (y : S4x1024x1024.Idx) : ∃ pc ∈ (runA m c t h0).2.2.2.2.2.2.2.2.2.2.1, y ∈ pc.1.set :=
  View.cover_of_tiledL (runA m c t h0).2.2.2.2.2.2.2.2.2.2.1 S4x1024x1024.size (by sl_kernel_rfl) y

/-- What the first point leaves in carried scratch 1. -/
def sout0_A_1 (c : Dev nD) (t : Fin cfg0.N) (h0 : t.val % 16 = 0) : Vec F S4x1024x1024 .bf16 :=
  VS0_1.read (Elt F) (VS0_1.writes (Elt F) VS0_1.junk (runA m c t h0).2.2.2.2.2.2.2.2.2.2.1)

/-- At the first point the stores into carried scratch 2 cover it. -/
theorem scover0_A_2 (c : Dev nD) (t : Fin cfg0.N) (h0 : t.val % 16 = 0) (y : S1024x1024.Idx) : ∃ pc ∈ (runA m c t h0).2.2.2.2.2.2.2.2.2.2.2.1, y ∈ pc.1.set :=
  View.cover_of_tiledL (runA m c t h0).2.2.2.2.2.2.2.2.2.2.2.1 S1024x1024.size (by sl_kernel_rfl) y

/-- What the first point leaves in carried scratch 2. -/
def sout0_A_2 (c : Dev nD) (t : Fin cfg0.N) (h0 : t.val % 16 = 0) : Vec F S1024x1024 .bf16 :=
  VS0_2.read (Elt F) (VS0_2.writes (Elt F) VS0_2.junk (runA m c t h0).2.2.2.2.2.2.2.2.2.2.2.1)

/-- At a later point the stores into output window 6 cover it. -/
theorem cover0_B_6 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x4096.Idx) : ∃ pc ∈ (runB m c t h0 xo13 xs0 xs1 xs2).1, y ∈ pc.1.set :=
  View.cover_of_tiledL (runB m c t h0 xo13 xs0 xs1 xs2).1 S256x1024.size (by sl_kernel_rfl) y

/-- What a later point leaves in output window 6. -/
def out0_B_6 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x4096 .bf16 :=
  VO0_6.read (Elt F) (VO0_6.writes (Elt F) VO0_6.junk (runB m c t h0 xo13 xs0 xs1 xs2).1)

/-- At a later point the stores into output window 7 cover it. -/
theorem cover0_B_7 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x4096.Idx) : ∃ pc ∈ (runB m c t h0 xo13 xs0 xs1 xs2).2.1, y ∈ pc.1.set :=
  View.cover_of_tiledL (runB m c t h0 xo13 xs0 xs1 xs2).2.1 S256x1024.size (by sl_kernel_rfl) y

/-- What a later point leaves in output window 7. -/
def out0_B_7 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x4096 .bf16 :=
  VO0_7.read (Elt F) (VO0_7.writes (Elt F) VO0_7.junk (runB m c t h0 xo13 xs0 xs1 xs2).2.1)

/-- At a later point the stores into output window 8 cover it. -/
theorem cover0_B_8 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x1024.Idx) : ∃ pc ∈ (runB m c t h0 xo13 xs0 xs1 xs2).2.2.1, y ∈ pc.1.set :=
  View.cover_of_tiledL (runB m c t h0 xo13 xs0 xs1 xs2).2.2.1 S256x1024.size (by sl_kernel_rfl) y

/-- What a later point leaves in output window 8. -/
def out0_B_8 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x1024 .bf16 :=
  VO0_8.read (Elt F) (VO0_8.writes (Elt F) VO0_8.junk (runB m c t h0 xo13 xs0 xs1 xs2).2.2.1)

/-- At a later point the stores into output window 9 cover it. -/
theorem cover0_B_9 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x1024.Idx) : ∃ pc ∈ (runB m c t h0 xo13 xs0 xs1 xs2).2.2.2.1, y ∈ pc.1.set :=
  View.cover_of_tiledL (runB m c t h0 xo13 xs0 xs1 xs2).2.2.2.1 S256x1024.size (by sl_kernel_rfl) y

/-- What a later point leaves in output window 9. -/
def out0_B_9 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x1024 .bf16 :=
  VO0_9.read (Elt F) (VO0_9.writes (Elt F) VO0_9.junk (runB m c t h0 xo13 xs0 xs1 xs2).2.2.2.1)

/-- At a later point the stores into output window 10 cover it. -/
theorem cover0_B_10 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x1024.Idx) : ∃ pc ∈ (runB m c t h0 xo13 xs0 xs1 xs2).2.2.2.2.1, y ∈ pc.1.set :=
  View.cover_of_tiledL (runB m c t h0 xo13 xs0 xs1 xs2).2.2.2.2.1 S256x1024.size (by sl_kernel_rfl) y

/-- What a later point leaves in output window 10. -/
def out0_B_10 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x1024 .bf16 :=
  VO0_10.read (Elt F) (VO0_10.writes (Elt F) VO0_10.junk (runB m c t h0 xo13 xs0 xs1 xs2).2.2.2.2.1)

/-- At a later point the stores into output window 11 cover it. -/
theorem cover0_B_11 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x1024.Idx) : ∃ pc ∈ (runB m c t h0 xo13 xs0 xs1 xs2).2.2.2.2.2.1, y ∈ pc.1.set :=
  View.cover_of_tiledL (runB m c t h0 xo13 xs0 xs1 xs2).2.2.2.2.2.1 S256x1024.size (by sl_kernel_rfl) y

/-- What a later point leaves in output window 11. -/
def out0_B_11 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x1024 .f32 :=
  VO0_11.read (Elt F) (VO0_11.writes (Elt F) VO0_11.junk (runB m c t h0 xo13 xs0 xs1 xs2).2.2.2.2.2.1)

/-- At a later point the stores into output window 12 cover it. -/
theorem cover0_B_12 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S256x1024.Idx) : ∃ pc ∈ (runB m c t h0 xo13 xs0 xs1 xs2).2.2.2.2.2.2.1, y ∈ pc.1.set :=
  View.cover_of_tiledL (runB m c t h0 xo13 xs0 xs1 xs2).2.2.2.2.2.2.1 S256x1024.size (by sl_kernel_rfl) y

/-- What a later point leaves in output window 12. -/
def out0_B_12 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x1024 .f32 :=
  VO0_12.read (Elt F) (VO0_12.writes (Elt F) VO0_12.junk (runB m c t h0 xo13 xs0 xs1 xs2).2.2.2.2.2.2.1)

/-- The sums after a later point: its stores over what the point before left. -/
def out0_B_13 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S16x1024 .f32 :=
  (ms0_13 t).view.read (Elt F) ((ms0_13 t).view.writes (Elt F) ((hs0_13 t).unread xo13) (runB m c t h0 xo13 xs0 xs1 xs2).2.2.2.2.2.2.2.1)

/-- At a later point the stores into output window 14 cover it. -/
theorem cover0_B_14 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) (y : S4x1x256.Idx) : ∃ pc ∈ (runB m c t h0 xo13 xs0 xs1 xs2).2.2.2.2.2.2.2.2.1, y ∈ pc.1.set :=
  View.cover_of_tiledL (runB m c t h0 xo13 xs0 xs1 xs2).2.2.2.2.2.2.2.2.1 S1x1x256.size (by sl_kernel_rfl) y

/-- What a later point leaves in output window 14. -/
def out0_B_14 (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S4x1x256 .f32 :=
  VO0_14.read (Elt F) (VO0_14.writes (Elt F) VO0_14.junk (runB m c t h0 xo13 xs0 xs1 xs2).2.2.2.2.2.2.2.2.1)

/-- What the first point leaves: the nine outputs, then the three carried scratches. -/
def outsA (c : Dev nD) (t : Fin cfg0.N) (h0 : t.val % 16 = 0) : Vec F S256x4096 .bf16 × Vec F S256x4096 .bf16 × Vec F S256x1024 .bf16 × Vec F S256x1024 .bf16 × Vec F S256x1024 .bf16 × Vec F S256x1024 .f32 × Vec F S256x1024 .f32 × Vec F S16x1024 .f32 × Vec F S4x1x256 .f32 × Vec F S4x1024x1024 .bf16 × Vec F S4x1024x1024 .bf16 × Vec F S1024x1024 .bf16 :=
  (out0_A_6 m c t h0, out0_A_7 m c t h0, out0_A_8 m c t h0, out0_A_9 m c t h0, out0_A_10 m c t h0, out0_A_11 m c t h0, out0_A_12 m c t h0, out0_A_13 m c t h0, out0_A_14 m c t h0, sout0_A_0 m c t h0, sout0_A_1 m c t h0, sout0_A_2 m c t h0)

/-- What a later point leaves; the carried weights stay. -/
def outsB (c : Dev nD) (t : Fin cfg0.N) (h0 : ¬t.val % 16 = 0) (xo13 : Vec F S16x1024 .f32) (xs0 : Vec F S4x1024x1024 .bf16) (xs1 : Vec F S4x1024x1024 .bf16) (xs2 : Vec F S1024x1024 .bf16) : Vec F S256x4096 .bf16 × Vec F S256x4096 .bf16 × Vec F S256x1024 .bf16 × Vec F S256x1024 .bf16 × Vec F S256x1024 .bf16 × Vec F S256x1024 .f32 × Vec F S256x1024 .f32 × Vec F S16x1024 .f32 × Vec F S4x1x256 .f32 × Vec F S4x1024x1024 .bf16 × Vec F S4x1024x1024 .bf16 × Vec F S1024x1024 .bf16 :=
  (out0_B_6 m c t h0 xo13 xs0 xs1 xs2, out0_B_7 m c t h0 xo13 xs0 xs1 xs2, out0_B_8 m c t h0 xo13 xs0 xs1 xs2, out0_B_9 m c t h0 xo13 xs0 xs1 xs2, out0_B_10 m c t h0 xo13 xs0 xs1 xs2, out0_B_11 m c t h0 xo13 xs0 xs1 xs2, out0_B_12 m c t h0 xo13 xs0 xs1 xs2, out0_B_13 m c t h0 xo13 xs0 xs1 xs2, out0_B_14 m c t h0 xo13 xs0 xs1 xs2, xs0, xs1, xs2)

/-- What the outputs' staging buffers and the carried scratches hold after the body at position `n`. -/
def outsAt0 (c : Dev nD) : (n : ℕ) → n < cfg0.N → Vec F S256x4096 .bf16 × Vec F S256x4096 .bf16 × Vec F S256x1024 .bf16 × Vec F S256x1024 .bf16 × Vec F S256x1024 .bf16 × Vec F S256x1024 .f32 × Vec F S256x1024 .f32 × Vec F S16x1024 .f32 × Vec F S4x1x256 .f32 × Vec F S4x1024x1024 .bf16 × Vec F S4x1024x1024 .bf16 × Vec F S1024x1024 .bf16
  | 0, hn => outsA m c ⟨0, hn⟩ (Nat.zero_mod _)
  | n + 1, hn =>
    if h0 : (n + 1) % 16 = 0 then outsA m c ⟨n + 1, hn⟩ h0
    else outsB m c ⟨n + 1, hn⟩ h0 (outsAt0 c n (Nat.lt_of_succ_lt hn)).2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2

theorem outsAt0_A (c : Dev nD) (t : Fin cfg0.N) (h0 : t.val % 16 = 0) : outsAt0 m c t.val t.isLt = outsA m c t h0 := by
  obtain ⟨n, hn⟩ := t
  cases n with
  | zero => rfl
  | succ n => exact dif_pos h0

theorem outsAt0_B (c : Dev nD) (t : Fin cfg0.N) (h0 : ¬t.val % 16 = 0) :
    outsAt0 m c t.val t.isLt = outsB m c t h0 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 := by
  obtain ⟨n, hn⟩ := t
  cases n with
  | zero => exact absurd (Nat.zero_mod _) h0
  | succ n => exact dif_neg h0

end Cert.KernelIdeal.Gen

end
-- ==== Proof.Frame.lean ====
module

public import proofs.«01_k».proof.Proof.FrameCases
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2) ∗ (∃ d, owns (c : Thread nD τ) scM0_3 fullShare d)) ∗ (∃ r, prngReg c r) ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v28) ∗ hbPt0 c hbM0_1 (V m c main_v32) ∗ hbPt0 c hbM0_2 (V m c main_v34) ∗ hbPt0 c hbM0_3 (V m c main_v35)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2) ∗ (∃ d, owns (c : Thread nD τ) scM0_3 fullShare d)) ∗ (∃ r, prngReg c r) ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v28) ∗ hbPt0 c hbM0_1 (V m c main_v32) ∗ hbPt0 c hbM0_2 (V m c main_v34) ∗ hbPt0 c hbM0_3 (V m c main_v35))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ owns (c : Thread nD τ) scM0_1 fullShare ((outsAt0 m c (n - 1) (by omega)).2.2.2.2.2.2.2.2.2.2.1) ∗ owns (c : Thread nD τ) scM0_2 fullShare ((outsAt0 m c (n - 1) (by omega)).2.2.2.2.2.2.2.2.2.2.2) ∗ (∃ d, owns (c : Thread nD τ) scM0_3 fullShare d)) ∗ (∃ r, prngReg c r) ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v28) ∗ hbPt0 c hbM0_1 (V m c main_v32) ∗ hbPt0 c hbM0_2 (V m c main_v34) ∗ hbPt0 c hbM0_3 (V m c main_v35))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
    | ⟨12, _⟩ => (outsAt0 m c t.val t.isLt).2.2.2.2.2.2.1
    | ⟨13, _⟩ => (outsAt0 m c t.val t.isLt).2.2.2.2.2.2.2.1
    | ⟨14, _⟩ => (outsAt0 m c t.val t.isLt).2.2.2.2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]
theorem after0_12 (c : Dev nD) (t : Fin cfg0.N) : (dats m 0 c).after 12 t = (outsAt0 m c t.val t.isLt).2.2.2.2.2.2.1 := by dsimp only [dats]
theorem after0_13 (c : Dev nD) (t : Fin cfg0.N) : (dats m 0 c).after 13 t = (outsAt0 m c t.val t.isLt).2.2.2.2.2.2.2.1 := by dsimp only [dats]
theorem after0_14 (c : Dev nD) (t : Fin cfg0.N) : (dats m 0 c).after 14 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 16 = 0) (d) :
    (dats m 0 c).before 13 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold outsA out0_A_6 out0_A_7 out0_A_8 out0_A_9 out0_A_10 out0_A_11 out0_A_12 out0_A_13 out0_A_14 sout0_A_0 sout0_A_1 sout0_A_2; (try dsimp only)
      iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA m c t h0).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%es0, HS0⟩, ⟨%es1, HS1⟩, ⟨%es2, HS2⟩, ⟨%fT3, HS3⟩, Hq0, Hq1, Hq2, Hq3, Hh0, Hh1, Hh2, Hh3, ⟨%W', HW'⟩⟩
      isplitl [HS0 HS1 HS2 HS3 Hg Hq0 Hq1 Hq2 Hq3 Hh0 Hh1 Hh2 Hh3]
      · isplitl [HS0 HS1 HS2 HS3]
        · isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          iexists _; unfold owns; iexists _; isplitr
          swap; · iexact HS3
          ipureintro; rfl
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 m c t h0)
      isplitl [H7]
      · unfold owns; iexists _; isplitr
        swap; · iexact H7
        ipureintro; exact View.read_writes_of_cover _ _ _ _ _ (cover0_A_7 m c t h0)
      isplitl [H8]
      · unfold owns; iexists _; isplitr
        swap; · iexact H8
        ipureintro; exact View.read_writes_of_cover _ _ _ _ _ (cover0_A_8 m c t h0)
      isplitl [H9]
      · unfold owns; iexists _; isplitr
        swap; · iexact H9
        ipureintro; exact View.read_writes_of_cover _ _ _ _ _ (cover0_A_9 m c t h0)
      isplitl [H10]
      · unfold owns; iexists _; isplitr
        swap; · iexact H10
        ipureintro; exact View.read_writes_of_cover _ _ _ _ _ (cover0_A_10 m c t h0)
      isplitl [H11]
      · unfold owns; iexists _; isplitr
        swap; · iexact H11
        ipureintro; exact View.read_writes_of_cover _ _ _ _ _ (cover0_A_11 m c t h0)
      isplitl [H12]
      · unfold owns; iexists _; isplitr
        swap; · iexact H12
        ipureintro; exact View.read_writes_of_cover _ _ _ _ _ (cover0_A_12 m c t h0)
      isplitl [H13]
      · unfold owns; iexists _; isplitr
        swap; · iexact H13
        ipureintro; exact View.read_writes_of_cover _ _ _ _ _ (cover0_A_13 m c t h0)
      unfold owns; iexists _; isplitr
      swap; · iexact H14
      ipureintro; exact View.read_writes_of_cover _ _ _ _ _ (cover0_A_14 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_13_B m c t h0]
      unfold outsB out0_B_6 out0_B_7 out0_B_8 out0_B_9 out0_B_10 out0_B_11 out0_B_12 out0_B_13 out0_B_14; (try dsimp only)
      iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB m c t h0 _ _ _ _).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexact H13
      isplitl [H14]; · iexists _; iexact H14
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, ⟨%e6, H6⟩, ⟨%e7, H7⟩, ⟨%e8, H8⟩, ⟨%e9, H9⟩, ⟨%e10, H10⟩, ⟨%e11, H11⟩, ⟨%e12, H12⟩, H13, ⟨%e14, H14⟩, HS0, HS1, HS2, ⟨%fT3, HS3⟩, Hq0, Hq1, Hq2, Hq3, Hh0, Hh1, Hh2, Hh3, ⟨%W', HW'⟩⟩
      isplitl [HS0 HS1 HS2 HS3 Hg Hq0 Hq1 Hq2 Hq3 Hh0 Hh1 Hh2 Hh3]
      · isplitl [HS0 HS1 HS2 HS3]
        · isplitl [HS0]; · iexact HS0
          isplitl [HS1]; · iexact HS1
          isplitl [HS2]; · iexact HS2
          iexists _; unfold owns; iexists _; isplitr
          swap; · iexact HS3
          ipureintro; rfl
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 m c t h0 _ _ _ _)
      isplitl [H7]
      · unfold owns; iexists _; isplitr
        swap; · iexact H7
        ipureintro; exact View.read_writes_of_cover _ _ _ _ _ (cover0_B_7 m c t h0 _ _ _ _)
      isplitl [H8]
      · unfold owns; iexists _; isplitr
        swap; · iexact H8
        ipureintro; exact View.read_writes_of_cover _ _ _ _ _ (cover0_B_8 m c t h0 _ _ _ _)
      isplitl [H9]
      · unfold owns; iexists _; isplitr
        swap; · iexact H9
        ipureintro; exact View.read_writes_of_cover _ _ _ _ _ (cover0_B_9 m c t h0 _ _ _ _)
      isplitl [H10]
      · unfold owns; iexists _; isplitr
        swap; · iexact H10
        ipureintro; exact View.read_writes_of_cover _ _ _ _ _ (cover0_B_10 m c t h0 _ _ _ _)
      isplitl [H11]
      · unfold owns; iexists _; isplitr
        swap; · iexact H11
        ipureintro; exact View.read_writes_of_cover _ _ _ _ _ (cover0_B_11 m c t h0 _ _ _ _)
      isplitl [H12]
      · unfold owns; iexists _; isplitr
        swap; · iexact H12
        ipureintro; exact View.read_writes_of_cover _ _ _ _ _ (cover0_B_12 m c t h0 _ _ _ _)
      isplitl [H13]
      · unfold owns; iexists _; isplitr
        swap; · iexact H13
        ipureintro; rfl
      unfold owns; iexists _; isplitr
      swap; · iexact H14
      ipureintro; exact View.read_writes_of_cover _ _ _ _ _ (cover0_B_14 m c t h0 _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3⟩, ⟨Hh0, Hh1, Hh2, Hh3⟩⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_KernelIdeal`'s statement (Defs.lean) at any `F` — Proof.lean cites it at `Bits`: -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Gen

end
-- ==== Proof.Frames.lean ====
module

public import proofs.«01_k».proof.Defs
public import proofs.«01_k».proof.Proof.Gen.Kernel
public import proofs.«01_k».proof.Proof.Gen.ReferenceIdeal.Run
public import proofs.«01_k».proof.Proof.Frame

/-! The frames: each program ends with its arguments as launched and every counter at zero. -/

@[expose] public section

set_option maxRecDepth 16384

noncomputable section

namespace Cert.Proof

open Idealize.ShloMosaic Idealize.SL.Sem

section
open Cert.KernelIdeal

/-- The frame of the ideal reading's text over the machine's own floats. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0)

/-- The kernel as written and its ideal reading are one text, so this is the kernel's own frame. -/
theorem frameBits_eq : Cert.quiescent_Kernel = FrameBits := by sl_kernel_rfl

end

theorem frame_kernel : Cert.quiescent_Kernel :=
  frameBits_eq.mpr fun m ρ _ => Cert.KernelIdeal.Gen.frame (F := Bits) m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2.2.2.2,
    sem_eq_zero_of_no_sems (by decide) r.2⟩) (Cert.ReferenceIdeal.Value.run (F := Ideal) m ρ)

end Cert.Proof

end
-- ==== Proof.Spec.lean ====
/-
  The mathematics of the step from the merged heads to the loss and back, over the reals, one token at a
  time: what both programs are shown to compute. Nothing here mentions either program.
-/
module

public import Idealize.ShloMosaic.Lib.Pointwise
public import Idealize.ShloMosaic.Lib.IdealHost

@[expose] public section

set_option maxRecDepth 16384

noncomputable section

namespace Cert.Spec

open Idealize.ShloMosaic

/-! ### The constants -/

/-- The weight of the residual branch. -/
def cA : ℝ := 9975792 * (2 : ℝ) ^ (-23 : ℤ)
/-- The number added to a variance. -/
def cE : ℝ := 10995116 * (2 : ℝ) ^ (-40 : ℤ)
/-- The width of the model. -/
def cN : ℝ := 1024
/-- Its reciprocal. -/
def cI : ℝ := 1 / 1024
/-- Two. -/
def c2 : ℝ := 2
/-- One half. -/
def cH : ℝ := 1 / 2
/-- Minus one half. -/
def cM : ℝ := -(1 / 2)

theorem bits_A : Ideal.ofBits .f32 0x3F9837F0#32 = (cA : EReal) := by
  unfold cA
  simp [Ideal.ofBits, Ideal.ieee, -EReal.coe_mul]
theorem bits_E : Ideal.ofBits .f32 0x3727C5AC#32 = (cE : EReal) := by
  unfold cE
  simp [Ideal.ofBits, Ideal.ieee, -EReal.coe_mul]
theorem bits_N : Ideal.ofBits .f32 0x44800000#32 = (cN : EReal) := by
  unfold cN
  simp [Ideal.ofBits, Ideal.ieee, -EReal.coe_mul]; norm_num
theorem bits_I : Ideal.ofBits .f32 0x3A800000#32 = (cI : EReal) := by
  unfold cI
  simp [Ideal.ofBits, Ideal.ieee, -EReal.coe_mul]; norm_num
theorem bits_2 : Ideal.ofBits .f32 0x40000000#32 = (c2 : EReal) := by
  unfold c2
  simp [Ideal.ofBits, Ideal.ieee, -EReal.coe_mul]; norm_num
theorem bits_H : Ideal.ofBits .f32 0x3F000000#32 = (cH : EReal) := by
  unfold cH
  simp [Ideal.ofBits, Ideal.ieee, -EReal.coe_mul]; norm_num
theorem bits_M : Ideal.ofBits .f32 0xBF000000#32 = (cM : EReal) := by
  unfold cM
  simp [Ideal.ofBits, Ideal.ieee, -EReal.coe_mul, -EReal.coe_neg]; norm_num

/-! ### Extended-real operations on reals -/

theorem r_add (a b : ℝ) : (a : EReal) + (b : EReal) = ((a + b : ℝ) : EReal) := (EReal.coe_add a b).symm
theorem r_mul (a b : ℝ) : (a : EReal) * (b : EReal) = ((a * b : ℝ) : EReal) := (EReal.coe_mul a b).symm
theorem r_sub (a b : ℝ) : (a : EReal) - (b : EReal) = ((a - b : ℝ) : EReal) := (EReal.coe_sub a b).symm
theorem r_neg (a : ℝ) : -(a : EReal) = ((-a : ℝ) : EReal) := (EReal.coe_neg a).symm
theorem r_zero : (0 : EReal) = ((0 : ℝ) : EReal) := rfl
theorem r_one : (1 : EReal) = ((1 : ℝ) : EReal) := rfl
theorem r_max (a b : ℝ) : max (a : EReal) (b : EReal) = ((max a b : ℝ) : EReal) :=
  (EReal.coe_strictMono.monotone.map_max).symm
theorem r_div {b : ℝ} (h : b ≠ 0) (a : ℝ) : Ideal.div (a : EReal) (b : EReal) = ((a / b : ℝ) : EReal) := by
  rw [Ideal.div_coe h, r_mul, mul_one_div]
theorem cN_ne : cN ≠ 0 := by unfold cN; norm_num
theorem r_divN (a : ℝ) : Ideal.div (a : EReal) (cN : EReal) = ((a / cN : ℝ) : EReal) := r_div cN_ne a
theorem r_rsqrt {a : ℝ} (h : 0 < a) : Ideal.rsqrt (a : EReal) = (((Real.sqrt a)⁻¹ : ℝ) : EReal) := by
  rw [Ideal.rsqrt_coe, if_neg (not_lt.mpr h.le), if_neg h.ne']
theorem r_sum {n : ℕ} (f : Fin n → ℝ) : ∑ k, (f k : EReal) = ((∑ k, f k : ℝ) : EReal) := by
  induction n with
  | zero => simp
  | succ n ih => rw [Fin.sum_univ_succ, Fin.sum_univ_succ, ih, r_add]

/-! ### The step, one token at a time -/

/-- The rows and matrices every token shares. -/
structure Wts where
  ga : Fin 1024 → ℝ
  shm : Fin 1024 → ℝ
  scm : Fin 1024 → ℝ
  gm : Fin 1024 → ℝ
  g1 : Fin 1024 → ℝ
  b1 : Fin 1024 → ℝ
  g2 : Fin 1024 → ℝ
  b2 : Fin 1024 → ℝ
  wo : Fin 1024 → Fin 1024 → ℝ
  w1 : Fin 1024 → Fin 4096 → ℝ
  w2 : Fin 4096 → Fin 1024 → ℝ

/-- What the step takes of one token: the normalised row and its scale, the mixed heads, the target, the
    attention's output. -/
structure Row where
  xh : Fin 1024 → ℝ
  rs : ℝ
  mix : Fin 1024 → ℝ
  tgt : Fin 1024 → ℝ
  om : Fin 512 → ℝ

/-- The mean of a row. -/
def mean (v : Fin 1024 → ℝ) : ℝ := (∑ k, v k) / cN
/-- A variance with the small number added. -/
def var (v : Fin 1024 → ℝ) : ℝ := mean (fun k => v k * v k) + cE
/-- The reciprocal of its root. -/
def rstd (v : Fin 1024 → ℝ) : ℝ := (Real.sqrt (var v))⁻¹
/-- A row less its mean. -/
def cent (v : Fin 1024 → ℝ) (c : Fin 1024) : ℝ := v c - mean v
/-- The gradient of a normalisation, from the normalised row. -/
def lnBack (rs : ℝ) (xh g : Fin 1024 → ℝ) (c : Fin 1024) : ℝ :=
  rs * (g c - mean g - xh c * mean (fun k => g k * xh k))

variable (W : Wts) (ρ : Row)

def x1 (c : Fin 1024) : ℝ := ρ.xh c * W.g1 c + W.b1 c
def um (c : Fin 1024) : ℝ := x1 W ρ c * (1 + W.scm c) + W.shm c
def hp (f : Fin 4096) : ℝ := ∑ k, um W ρ k * W.w1 k f
def act (f : Fin 4096) : ℝ := max (hp W ρ f) 0 * max (hp W ρ f) 0
def hh (c : Fin 1024) : ℝ := ∑ f, act W ρ f * W.w2 f c
def r2 (c : Fin 1024) : ℝ := cA * x1 W ρ c + (1 + W.gm c) * hh W ρ c
def xc2 (c : Fin 1024) : ℝ := cent (r2 W ρ) c
def rs2 : ℝ := rstd (xc2 W ρ)
def xh2 (c : Fin 1024) : ℝ := xc2 W ρ c * rs2 W ρ
def err (c : Fin 1024) : ℝ := xh2 W ρ c * W.g2 c + W.b2 c - ρ.tgt c
def loss : ℝ := mean fun k => err W ρ k * err W ρ k
def dy (c : Fin 1024) : ℝ := err W ρ c * cI
def dxh2 (c : Fin 1024) : ℝ := dy W ρ c * W.g2 c
def dr2 (c : Fin 1024) : ℝ := lnBack (rs2 W ρ) (xh2 W ρ) (dxh2 W ρ) c
def dh (c : Fin 1024) : ℝ := (1 + W.gm c) * dr2 W ρ c
def dhp (f : Fin 4096) : ℝ := (∑ c, dh W ρ c * W.w2 f c) * (c2 * max (hp W ρ f) 0)
def du (c : Fin 1024) : ℝ := ∑ f, dhp W ρ f * W.w1 c f
def dx1 (c : Fin 1024) : ℝ := cA * dr2 W ρ c + du W ρ c * (1 + W.scm c)
def dxh1 (c : Fin 1024) : ℝ := dx1 W ρ c * W.g1 c
def dr1 (c : Fin 1024) : ℝ := lnBack ρ.rs ρ.xh (dxh1 W ρ) c
def dmix (c : Fin 1024) : ℝ := (1 + W.ga c) * dr1 W ρ c
def dcat (k : Fin 1024) : ℝ := ∑ c, dmix W ρ c * W.wo k c
def delta (h : Fin 4) : ℝ :=
  ∑ i : Fin 128, dcat W ρ ⟨512 + (h.val * 128 + i.val), by omega⟩ * ρ.om ⟨h.val * 128 + i.val, by omega⟩

/-- What one token adds to row `k` of the sums over the tokens. -/
def part (k : Fin 16) (c : Fin 1024) : ℝ :=
  if k.val = 0 then dy W ρ c * xh2 W ρ c
  else if k.val = 1 then dy W ρ c
  else if k.val = 2 then dr2 W ρ c * hh W ρ c
  else if k.val = 3 then du W ρ c * x1 W ρ c
  else if k.val = 4 then du W ρ c
  else if k.val = 5 then dx1 W ρ c * ρ.xh c
  else if k.val = 6 then dx1 W ρ c
  else if k.val = 7 then dr1 W ρ c * ρ.mix c
  else if k.val = 8 then cH * loss W ρ
  else 0

/-! ### The whole input -/

/-- The arguments as reals. -/
structure Inp where
  W : Wts
  x : Fin 4096 → Fin 1024 → ℝ
  oh : Fin 4096 → Fin 512 → ℝ
  om : Fin 4096 → Fin 512 → ℝ
  tgt : Fin 4096 → Fin 1024 → ℝ

variable (A : Inp)

def cat (r : Fin 4096) (k : Fin 1024) : ℝ :=
  if h : k.val < 512 then A.oh r ⟨k.val, h⟩ else A.om r ⟨k.val - 512, by omega⟩
def mix (r : Fin 4096) (c : Fin 1024) : ℝ := ∑ k, cat A r k * A.W.wo k c
def r1 (r : Fin 4096) (c : Fin 1024) : ℝ := cA * A.x r c + (1 + A.W.ga c) * mix A r c
def xc1 (r : Fin 4096) (c : Fin 1024) : ℝ := cent (r1 A r) c
def rs1 (r : Fin 4096) : ℝ := rstd (xc1 A r)

/-- The token at row `r`. -/
def tok (r : Fin 4096) : Row :=
  { xh := fun c => xc1 A r c * rs1 A r, rs := rs1 A r, mix := mix A r, tgt := A.tgt r, om := A.om r }

/-! ### The arguments as arrays -/

def X0 (i : (⟨2, ![4096, 1024]⟩ : Shape).Idx) : EReal := ((A.x (i 0) (i 1) : ℝ) : EReal)
def X1 (i : (⟨2, ![4096, 512]⟩ : Shape).Idx) : EReal := ((A.oh (i 0) (i 1) : ℝ) : EReal)
def X2 (i : (⟨2, ![4096, 512]⟩ : Shape).Idx) : EReal := ((A.om (i 0) (i 1) : ℝ) : EReal)
def X3 (i : (⟨2, ![4096, 1024]⟩ : Shape).Idx) : EReal := ((A.tgt (i 0) (i 1) : ℝ) : EReal)
def X4 (i : (⟨2, ![1, 1024]⟩ : Shape).Idx) : EReal := ((A.W.ga (i 1) : ℝ) : EReal)
def X5 (i : (⟨2, ![1, 1024]⟩ : Shape).Idx) : EReal := ((A.W.shm (i 1) : ℝ) : EReal)
def X6 (i : (⟨2, ![1, 1024]⟩ : Shape).Idx) : EReal := ((A.W.scm (i 1) : ℝ) : EReal)
def X7 (i : (⟨2, ![1, 1024]⟩ : Shape).Idx) : EReal := ((A.W.gm (i 1) : ℝ) : EReal)
def X8 (i : (⟨2, ![1, 1024]⟩ : Shape).Idx) : EReal := ((A.W.g1 (i 1) : ℝ) : EReal)
def X9 (i : (⟨2, ![1, 1024]⟩ : Shape).Idx) : EReal := ((A.W.b1 (i 1) : ℝ) : EReal)
def X10 (i : (⟨2, ![1, 1024]⟩ : Shape).Idx) : EReal := ((A.W.g2 (i 1) : ℝ) : EReal)
def X11 (i : (⟨2, ![1, 1024]⟩ : Shape).Idx) : EReal := ((A.W.b2 (i 1) : ℝ) : EReal)
def X12 (i : (⟨2, ![1024, 1024]⟩ : Shape).Idx) : EReal := ((A.W.wo (i 0) (i 1) : ℝ) : EReal)
def X13 (i : (⟨2, ![1024, 4096]⟩ : Shape).Idx) : EReal := ((A.W.w1 (i 0) (i 1) : ℝ) : EReal)
def X14 (i : (⟨2, ![4096, 1024]⟩ : Shape).Idx) : EReal := ((A.W.w2 (i 0) (i 1) : ℝ) : EReal)

theorem X0_at (r : Fin 4096) (c : Fin 1024) : X0 A (ix2 r c) = ((A.x r c : ℝ) : EReal) := rfl
theorem X1_at (r : Fin 4096) (c : Fin 512) : X1 A (ix2 r c) = ((A.oh r c : ℝ) : EReal) := rfl
theorem X2_at (r : Fin 4096) (c : Fin 512) : X2 A (ix2 r c) = ((A.om r c : ℝ) : EReal) := rfl
theorem X3_at (r : Fin 4096) (c : Fin 1024) : X3 A (ix2 r c) = ((A.tgt r c : ℝ) : EReal) := rfl
theorem X4_at (r : Fin 1) (c : Fin 1024) : X4 A (ix2 r c) = ((A.W.ga c : ℝ) : EReal) := rfl
theorem X5_at (r : Fin 1) (c : Fin 1024) : X5 A (ix2 r c) = ((A.W.shm c : ℝ) : EReal) := rfl
theorem X6_at (r : Fin 1) (c : Fin 1024) : X6 A (ix2 r c) = ((A.W.scm c : ℝ) : EReal) := rfl
theorem X7_at (r : Fin 1) (c : Fin 1024) : X7 A (ix2 r c) = ((A.W.gm c : ℝ) : EReal) := rfl
theorem X8_at (r : Fin 1) (c : Fin 1024) : X8 A (ix2 r c) = ((A.W.g1 c : ℝ) : EReal) := rfl
theorem X9_at (r : Fin 1) (c : Fin 1024) : X9 A (ix2 r c) = ((A.W.b1 c : ℝ) : EReal) := rfl
theorem X10_at (r : Fin 1) (c : Fin 1024) : X10 A (ix2 r c) = ((A.W.g2 c : ℝ) : EReal) := rfl
theorem X11_at (r : Fin 1) (c : Fin 1024) : X11 A (ix2 r c) = ((A.W.b2 c : ℝ) : EReal) := rfl
theorem X12_at (r : Fin 1024) (c : Fin 1024) : X12 A (ix2 r c) = ((A.W.wo r c : ℝ) : EReal) := rfl
theorem X13_at (r : Fin 1024) (c : Fin 4096) : X13 A (ix2 r c) = ((A.W.w1 r c : ℝ) : EReal) := rfl
theorem X14_at (r : Fin 4096) (c : Fin 1024) : X14 A (ix2 r c) = ((A.W.w2 r c : ℝ) : EReal) := rfl

/-! ### The results -/

/-- The hidden activations. -/
def Y6 (i : (⟨2, ![4096, 4096]⟩ : Shape).Idx) : EReal := ((act A.W (tok A (i 0)) (i 1) : ℝ) : EReal)
/-- The gradient at the hidden layer before its activation. -/
def Y7 (i : (⟨2, ![4096, 4096]⟩ : Shape).Idx) : EReal := ((dhp A.W (tok A (i 0)) (i 1) : ℝ) : EReal)
/-- The modulated rows. -/
def Y8 (i : (⟨2, ![4096, 1024]⟩ : Shape).Idx) : EReal := ((um A.W (tok A (i 0)) (i 1) : ℝ) : EReal)
/-- The gradient at the hidden layer's output. -/
def Y9 (i : (⟨2, ![4096, 1024]⟩ : Shape).Idx) : EReal := ((dh A.W (tok A (i 0)) (i 1) : ℝ) : EReal)
/-- The gradient at the mixed heads. -/
def Y10 (i : (⟨2, ![4096, 1024]⟩ : Shape).Idx) : EReal := ((dmix A.W (tok A (i 0)) (i 1) : ℝ) : EReal)
/-- The gradient at the joined heads. -/
def Y11 (i : (⟨2, ![4096, 1024]⟩ : Shape).Idx) : EReal := ((dcat A.W (tok A (i 0)) (i 1) : ℝ) : EReal)
/-- The gradient at the first residual sum. -/
def Y12 (i : (⟨2, ![4096, 1024]⟩ : Shape).Idx) : EReal := ((dr1 A.W (tok A (i 0)) (i 1) : ℝ) : EReal)
/-- The gradients that are sums over the tokens, and the loss. -/
def Y13 (i : (⟨2, ![16, 1024]⟩ : Shape).Idx) : EReal := ((∑ r, part A.W (tok A r) (i 0) (i 1) : ℝ) : EReal)
/-- The attention's row products. -/
def Y14 (i : (⟨3, ![4, 1, 4096]⟩ : Shape).Idx) : EReal := ((delta A.W (tok A (i 2)) (i 0) : ℝ) : EReal)

/-! ### The facts of real arithmetic -/

theorem cE_pos : 0 < cE := by unfold cE; positivity

theorem var_pos (v : Fin 1024 → ℝ) : 0 < var v := by
  have h : 0 ≤ mean (fun k => v k * v k) :=
    div_nonneg (Finset.sum_nonneg fun k _ => mul_self_nonneg (v k)) (by unfold cN; norm_num)
  have := cE_pos
  unfold var; linarith

theorem rstd_sq (v : Fin 1024 → ℝ) : rstd v * rstd v = 1 / var v := by
  unfold rstd
  rw [← mul_inv, Real.mul_self_sqrt (var_pos v).le, one_div]

theorem sum_cent (v : Fin 1024 → ℝ) : ∑ k, cent v k = 0 := by
  have h := cN_ne
  simp only [cent, Finset.sum_sub_distrib, mean, Finset.sum_const, Finset.card_univ, Fintype.card_fin, nsmul_eq_mul]
  unfold cN at *; field_simp; norm_num

/-- The gradient of a normalisation as the derivative rules write it is the closed form. -/
theorem lnBack_rules (v g : Fin 1024 → ℝ) (c : Fin 1024) :
    let xc := cent v
    let s := rstd xc
    let d := (∑ k, xc k * g k) * (cM * (s / var xc)) / cN
    let t := fun k => g k * s + xc k * d + d * xc k
    t c + (∑ k, -t k) / cN = lnBack s (fun k => xc k * s) g c := by
  intro xc s d t
  have hs : s * s = 1 / var xc := rstd_sq xc
  have h0 : ∑ k, xc k = 0 := sum_cent v
  have ht : ∑ k, -t k = -(s * ∑ k, g k) := by
    simp only [t, Finset.sum_neg_distrib, Finset.sum_add_distrib, ← Finset.sum_mul, ← Finset.mul_sum, h0]
    ring
  have hq : ∑ k, g k * (xc k * s) = s * ∑ k, xc k * g k := by
    rw [Finset.mul_sum]; exact Finset.sum_congr rfl fun k _ => by ring
  have hd : d = -(1 / 2) * (s * (s * s)) * (∑ k, xc k * g k) / cN := by
    rw [hs]; simp only [d, cM]; ring
  rw [ht]
  simp only [lnBack, mean, hq, t, hd]
  ring

/-- A sum over the wide axis is four sums over its quarters. -/
theorem sum_quarters (f : Fin 4096 → ℝ) :
    ∑ k, f k = (∑ k : Fin 1024, f ⟨0 + k.val, by omega⟩) + (∑ k : Fin 1024, f ⟨1024 + k.val, by omega⟩)
      + (∑ k : Fin 1024, f ⟨2048 + k.val, by omega⟩) + (∑ k : Fin 1024, f ⟨3072 + k.val, by omega⟩) := by
  rw [Fin.sum_univ_tiles 4 1024 rfl f, Fin.sum_univ_four]
  rfl

end Cert.Spec

end

end
-- ==== Proof.KerPure.lean ====
module

public import proofs.«01_k».proof.Proof.Gen.KernelIdeal.Skeleton
public import proofs.«01_k».proof.Proof.Spec

/-! What each stored value of the kernel's body is on a tile of tokens, in the terms of `Cert.Spec`. -/

@[expose] public section

set_option maxRecDepth 16384

noncomputable section

namespace Cert.KernelIdeal.Val

open Idealize.ShloMosaic Cert.KernelIdeal Cert.KernelIdeal.Gen Cert.Spec

/-- Column `k` of quarter `j` of the wide axis. -/
def q (j : Fin 4) (k : Fin 1024) : Fin 4096 := ⟨j.val * 1024 + k.val, by omega⟩

theorem sum_q (f : Fin 4096 → ℝ) :
    (∑ k, f (q 0 k)) + (∑ k, f (q 1 k)) + (∑ k, f (q 2 k)) + (∑ k, f (q 3 k)) = ∑ k, f k := by
  rw [Fin.sum_univ_tiles 4 1024 rfl f, Fin.sum_univ_four]
  rfl

/-- A feature of head `j` among the attention's. -/
def hd (j : Fin 4) (e : Fin 128) : Fin 512 := ⟨j.val * 128 + e.val, by omega⟩
/-- The same among the joined heads. -/
def hc (j : Fin 4) (e : Fin 128) : Fin 1024 := ⟨512 + (j.val * 128 + e.val), by omega⟩

/-- The first half of the hidden layer's output. -/
def hh2 (W : Wts) (ρ : Row) (c : Fin 1024) : ℝ := (∑ k, act W ρ (q 0 k) * W.w2 (q 0 k) c) + ∑ k, act W ρ (q 1 k) * W.w2 (q 1 k) c
/-- The first half of its gradient pulled back. -/
def du2 (W : Wts) (ρ : Row) (c : Fin 1024) : ℝ := (∑ k, dhp W ρ (q 0 k) * W.w1 c (q 0 k)) + ∑ k, dhp W ρ (q 1 k) * W.w1 c (q 1 k)

/-! ### What a point reads -/

def Ixh (ρ : Fin 256 → Row) (i : S256x1024.Idx) : EReal := (((ρ (i 0)).xh (i 1) : ℝ) : EReal)
theorem Ixh_at (ρ : Fin 256 → Row) (r : Fin 256) (c : Fin 1024) : Ixh ρ (ix2 r c) = (((ρ r).xh c : ℝ) : EReal) := rfl

def Imix (ρ : Fin 256 → Row) (i : S256x1024.Idx) : EReal := (((ρ (i 0)).mix (i 1) : ℝ) : EReal)
theorem Imix_at (ρ : Fin 256 → Row) (r : Fin 256) (c : Fin 1024) : Imix ρ (ix2 r c) = (((ρ r).mix c : ℝ) : EReal) := rfl

def Itgt (ρ : Fin 256 → Row) (i : S256x1024.Idx) : EReal := (((ρ (i 0)).tgt (i 1) : ℝ) : EReal)
theorem Itgt_at (ρ : Fin 256 → Row) (r : Fin 256) (c : Fin 1024) : Itgt ρ (ix2 r c) = (((ρ r).tgt c : ℝ) : EReal) := rfl

def Irs (ρ : Fin 256 → Row) (i : S256x1.Idx) : EReal := (((ρ (i 0)).rs : ℝ) : EReal)
theorem Irs_at (ρ : Fin 256 → Row) (r : Fin 256) (o : Fin 1) : Irs ρ (ix2 r o) = (((ρ r).rs : ℝ) : EReal) := rfl

def Iom (j : Fin 4) (ρ : Fin 256 → Row) (i : S256x128.Idx) : EReal := (((ρ (i 0)).om (hd j (i 1)) : ℝ) : EReal)
theorem Iom_at (j : Fin 4) (ρ : Fin 256 → Row) (r : Fin 256) (e : Fin 128) : Iom j ρ (ix2 r e) = (((ρ r).om (hd j e) : ℝ) : EReal) := rfl

def Vg1 (W : Wts) (i : S1x1024.Idx) : EReal := ((W.g1 (i 1) : ℝ) : EReal)
theorem Vg1_at (W : Wts) (o : Fin 1) (c : Fin 1024) : Vg1 W (ix2 o c) = ((W.g1 c : ℝ) : EReal) := rfl

def Vb1 (W : Wts) (i : S1x1024.Idx) : EReal := ((W.b1 (i 1) : ℝ) : EReal)
theorem Vb1_at (W : Wts) (o : Fin 1) (c : Fin 1024) : Vb1 W (ix2 o c) = ((W.b1 c : ℝ) : EReal) := rfl

def Vscm (W : Wts) (i : S1x1024.Idx) : EReal := ((W.scm (i 1) : ℝ) : EReal)
theorem Vscm_at (W : Wts) (o : Fin 1) (c : Fin 1024) : Vscm W (ix2 o c) = ((W.scm c : ℝ) : EReal) := rfl

def Vshm (W : Wts) (i : S1x1024.Idx) : EReal := ((W.shm (i 1) : ℝ) : EReal)
theorem Vshm_at (W : Wts) (o : Fin 1) (c : Fin 1024) : Vshm W (ix2 o c) = ((W.shm c : ℝ) : EReal) := rfl

def Vgm (W : Wts) (i : S1x1024.Idx) : EReal := ((W.gm (i 1) : ℝ) : EReal)
theorem Vgm_at (W : Wts) (o : Fin 1) (c : Fin 1024) : Vgm W (ix2 o c) = ((W.gm c : ℝ) : EReal) := rfl

def Vga (W : Wts) (i : S1x1024.Idx) : EReal := ((W.ga (i 1) : ℝ) : EReal)
theorem Vga_at (W : Wts) (o : Fin 1) (c : Fin 1024) : Vga W (ix2 o c) = ((W.ga c : ℝ) : EReal) := rfl

def Vg2 (W : Wts) (i : S1x1024.Idx) : EReal := ((W.g2 (i 1) : ℝ) : EReal)
theorem Vg2_at (W : Wts) (o : Fin 1) (c : Fin 1024) : Vg2 W (ix2 o c) = ((W.g2 c : ℝ) : EReal) := rfl

def Vb2 (W : Wts) (i : S1x1024.Idx) : EReal := ((W.b2 (i 1) : ℝ) : EReal)
theorem Vb2_at (W : Wts) (o : Fin 1) (c : Fin 1024) : Vb2 W (ix2 o c) = ((W.b2 c : ℝ) : EReal) := rfl

def WA (j : Fin 4) (W : Wts) (i : S1x1024x1024.Idx) : EReal := ((W.w1 (i 1) (q j (i 2)) : ℝ) : EReal)
theorem WA_at (j : Fin 4) (W : Wts) (o : Fin 1) (k : Fin 1024) (c : Fin 1024) : WA j W (ix3 o k c) = ((W.w1 k (q j c) : ℝ) : EReal) := rfl

def WB (j : Fin 4) (W : Wts) (i : S1x1024x1024.Idx) : EReal := ((W.w2 (q j (i 1)) (i 2) : ℝ) : EReal)
theorem WB_at (j : Fin 4) (W : Wts) (o : Fin 1) (k : Fin 1024) (c : Fin 1024) : WB j W (ix3 o k c) = ((W.w2 (q j k) c : ℝ) : EReal) := rfl

def WO (W : Wts) (i : S1024x1024.Idx) : EReal := ((W.wo (i 0) (i 1) : ℝ) : EReal)
theorem WO_at (W : Wts) (k : Fin 1024) (c : Fin 1024) : WO W (ix2 k c) = ((W.wo k c : ℝ) : EReal) := rfl

/-! ### What it computes -/

def Zr (W : Wts) (ρ : Fin 256 → Row) (i : S256x1024.Idx) : EReal := (((0 : ℝ) : ℝ) : EReal)
theorem Zr_at (W : Wts) (ρ : Fin 256 → Row) (r : Fin 256) (c : Fin 1024) : Zr W ρ (ix2 r c) = (((0 : ℝ) : ℝ) : EReal) := rfl

def Tx1 (W : Wts) (ρ : Fin 256 → Row) (i : S256x1024.Idx) : EReal := ((x1 W (ρ (i 0)) (i 1) : ℝ) : EReal)
theorem Tx1_at (W : Wts) (ρ : Fin 256 → Row) (r : Fin 256) (c : Fin 1024) : Tx1 W ρ (ix2 r c) = ((x1 W (ρ r) c : ℝ) : EReal) := rfl

def Tum (W : Wts) (ρ : Fin 256 → Row) (i : S256x1024.Idx) : EReal := ((um W (ρ (i 0)) (i 1) : ℝ) : EReal)
theorem Tum_at (W : Wts) (ρ : Fin 256 → Row) (r : Fin 256) (c : Fin 1024) : Tum W ρ (ix2 r c) = ((um W (ρ r) c : ℝ) : EReal) := rfl

def Thh2 (W : Wts) (ρ : Fin 256 → Row) (i : S256x1024.Idx) : EReal := ((hh2 W (ρ (i 0)) (i 1) : ℝ) : EReal)
theorem Thh2_at (W : Wts) (ρ : Fin 256 → Row) (r : Fin 256) (c : Fin 1024) : Thh2 W ρ (ix2 r c) = ((hh2 W (ρ r) c : ℝ) : EReal) := rfl

def Thh (W : Wts) (ρ : Fin 256 → Row) (i : S256x1024.Idx) : EReal := ((hh W (ρ (i 0)) (i 1) : ℝ) : EReal)
theorem Thh_at (W : Wts) (ρ : Fin 256 → Row) (r : Fin 256) (c : Fin 1024) : Thh W ρ (ix2 r c) = ((hh W (ρ r) c : ℝ) : EReal) := rfl

def Txc2 (W : Wts) (ρ : Fin 256 → Row) (i : S256x1024.Idx) : EReal := ((xc2 W (ρ (i 0)) (i 1) : ℝ) : EReal)
theorem Txc2_at (W : Wts) (ρ : Fin 256 → Row) (r : Fin 256) (c : Fin 1024) : Txc2 W ρ (ix2 r c) = ((xc2 W (ρ r) c : ℝ) : EReal) := rfl

def Trs2 (W : Wts) (ρ : Fin 256 → Row) (i : S256x1.Idx) : EReal := ((rs2 W (ρ (i 0)) : ℝ) : EReal)
theorem Trs2_at (W : Wts) (ρ : Fin 256 → Row) (r : Fin 256) (o : Fin 1) : Trs2 W ρ (ix2 r o) = ((rs2 W (ρ r) : ℝ) : EReal) := rfl

def Txh2 (W : Wts) (ρ : Fin 256 → Row) (i : S256x1024.Idx) : EReal := ((xh2 W (ρ (i 0)) (i 1) : ℝ) : EReal)
theorem Txh2_at (W : Wts) (ρ : Fin 256 → Row) (r : Fin 256) (c : Fin 1024) : Txh2 W ρ (ix2 r c) = ((xh2 W (ρ r) c : ℝ) : EReal) := rfl

def Terr (W : Wts) (ρ : Fin 256 → Row) (i : S256x1024.Idx) : EReal := ((err W (ρ (i 0)) (i 1) : ℝ) : EReal)
theorem Terr_at (W : Wts) (ρ : Fin 256 → Row) (r : Fin 256) (c : Fin 1024) : Terr W ρ (ix2 r c) = ((err W (ρ r) c : ℝ) : EReal) := rfl

def Tdy (W : Wts) (ρ : Fin 256 → Row) (i : S256x1024.Idx) : EReal := ((dy W (ρ (i 0)) (i 1) : ℝ) : EReal)
theorem Tdy_at (W : Wts) (ρ : Fin 256 → Row) (r : Fin 256) (c : Fin 1024) : Tdy W ρ (ix2 r c) = ((dy W (ρ r) c : ℝ) : EReal) := rfl

def Tdr2 (W : Wts) (ρ : Fin 256 → Row) (i : S256x1024.Idx) : EReal := ((dr2 W (ρ (i 0)) (i 1) : ℝ) : EReal)
theorem Tdr2_at (W : Wts) (ρ : Fin 256 → Row) (r : Fin 256) (c : Fin 1024) : Tdr2 W ρ (ix2 r c) = ((dr2 W (ρ r) c : ℝ) : EReal) := rfl

def Tdh (W : Wts) (ρ : Fin 256 → Row) (i : S256x1024.Idx) : EReal := ((dh W (ρ (i 0)) (i 1) : ℝ) : EReal)
theorem Tdh_at (W : Wts) (ρ : Fin 256 → Row) (r : Fin 256) (c : Fin 1024) : Tdh W ρ (ix2 r c) = ((dh W (ρ r) c : ℝ) : EReal) := rfl

def Tdu2 (W : Wts) (ρ : Fin 256 → Row) (i : S256x1024.Idx) : EReal := ((du2 W (ρ (i 0)) (i 1) : ℝ) : EReal)
theorem Tdu2_at (W : Wts) (ρ : Fin 256 → Row) (r : Fin 256) (c : Fin 1024) : Tdu2 W ρ (ix2 r c) = ((du2 W (ρ r) c : ℝ) : EReal) := rfl

def Tdu (W : Wts) (ρ : Fin 256 → Row) (i : S256x1024.Idx) : EReal := ((du W (ρ (i 0)) (i 1) : ℝ) : EReal)
theorem Tdu_at (W : Wts) (ρ : Fin 256 → Row) (r : Fin 256) (c : Fin 1024) : Tdu W ρ (ix2 r c) = ((du W (ρ r) c : ℝ) : EReal) := rfl

def Tdux (W : Wts) (ρ : Fin 256 → Row) (i : S256x1024.Idx) : EReal := ((du W (ρ (i 0)) (i 1) * x1 W (ρ (i 0)) (i 1) : ℝ) : EReal)
theorem Tdux_at (W : Wts) (ρ : Fin 256 → Row) (r : Fin 256) (c : Fin 1024) : Tdux W ρ (ix2 r c) = ((du W (ρ r) c * x1 W (ρ r) c : ℝ) : EReal) := rfl

def Tdx1 (W : Wts) (ρ : Fin 256 → Row) (i : S256x1024.Idx) : EReal := ((dx1 W (ρ (i 0)) (i 1) : ℝ) : EReal)
theorem Tdx1_at (W : Wts) (ρ : Fin 256 → Row) (r : Fin 256) (c : Fin 1024) : Tdx1 W ρ (ix2 r c) = ((dx1 W (ρ r) c : ℝ) : EReal) := rfl

def Tdr1 (W : Wts) (ρ : Fin 256 → Row) (i : S256x1024.Idx) : EReal := ((dr1 W (ρ (i 0)) (i 1) : ℝ) : EReal)
theorem Tdr1_at (W : Wts) (ρ : Fin 256 → Row) (r : Fin 256) (c : Fin 1024) : Tdr1 W ρ (ix2 r c) = ((dr1 W (ρ r) c : ℝ) : EReal) := rfl

def Tdmix (W : Wts) (ρ : Fin 256 → Row) (i : S256x1024.Idx) : EReal := ((dmix W (ρ (i 0)) (i 1) : ℝ) : EReal)
theorem Tdmix_at (W : Wts) (ρ : Fin 256 → Row) (r : Fin 256) (c : Fin 1024) : Tdmix W ρ (ix2 r c) = ((dmix W (ρ r) c : ℝ) : EReal) := rfl

def Tdcat (W : Wts) (ρ : Fin 256 → Row) (i : S256x1024.Idx) : EReal := ((dcat W (ρ (i 0)) (i 1) : ℝ) : EReal)
theorem Tdcat_at (W : Wts) (ρ : Fin 256 → Row) (r : Fin 256) (c : Fin 1024) : Tdcat W ρ (ix2 r c) = ((dcat W (ρ r) c : ℝ) : EReal) := rfl

def Thp (j : Fin 4) (W : Wts) (ρ : Fin 256 → Row) (i : S256x1024.Idx) : EReal := ((hp W (ρ (i 0)) (q j (i 1)) : ℝ) : EReal)
theorem Thp_at (j : Fin 4) (W : Wts) (ρ : Fin 256 → Row) (r : Fin 256) (c : Fin 1024) : Thp j W ρ (ix2 r c) = ((hp W (ρ r) (q j c) : ℝ) : EReal) := rfl

def Tact (j : Fin 4) (W : Wts) (ρ : Fin 256 → Row) (i : S256x1024.Idx) : EReal := ((act W (ρ (i 0)) (q j (i 1)) : ℝ) : EReal)
theorem Tact_at (j : Fin 4) (W : Wts) (ρ : Fin 256 → Row) (r : Fin 256) (c : Fin 1024) : Tact j W ρ (ix2 r c) = ((act W (ρ r) (q j c) : ℝ) : EReal) := rfl

def Thp3 (j : Fin 4) (W : Wts) (ρ : Fin 256 → Row) (i : S1x256x1024.Idx) : EReal := ((hp W (ρ (i 1)) (q j (i 2)) : ℝ) : EReal)
theorem Thp3_at (j : Fin 4) (W : Wts) (ρ : Fin 256 → Row) (o : Fin 1) (r : Fin 256) (c : Fin 1024) : Thp3 j W ρ (ix3 o r c) = ((hp W (ρ r) (q j c) : ℝ) : EReal) := rfl

def Tnt (j : Fin 4) (W : Wts) (ρ : Fin 256 → Row) (i : S256x1024.Idx) : EReal := ((∑ k, dh W (ρ (i 0)) k * W.w2 (q j (i 1)) k : ℝ) : EReal)
theorem Tnt_at (j : Fin 4) (W : Wts) (ρ : Fin 256 → Row) (r : Fin 256) (c : Fin 1024) : Tnt j W ρ (ix2 r c) = ((∑ k, dh W (ρ r) k * W.w2 (q j c) k : ℝ) : EReal) := rfl

def Tdhp (j : Fin 4) (W : Wts) (ρ : Fin 256 → Row) (i : S256x1024.Idx) : EReal := ((dhp W (ρ (i 0)) (q j (i 1)) : ℝ) : EReal)
theorem Tdhp_at (j : Fin 4) (W : Wts) (ρ : Fin 256 → Row) (r : Fin 256) (c : Fin 1024) : Tdhp j W ρ (ix2 r c) = ((dhp W (ρ r) (q j c) : ℝ) : EReal) := rfl

def Tprod (j : Fin 4) (W : Wts) (ρ : Fin 256 → Row) (i : S256x128.Idx) : EReal := ((dcat W (ρ (i 0)) (hc j (i 1)) * (ρ (i 0)).om (hd j (i 1)) : ℝ) : EReal)
theorem Tprod_at (j : Fin 4) (W : Wts) (ρ : Fin 256 → Row) (r : Fin 256) (e : Fin 128) : Tprod j W ρ (ix2 r e) = ((dcat W (ρ r) (hc j e) * (ρ r).om (hd j e) : ℝ) : EReal) := rfl

def Tdelta (j : Fin 4) (W : Wts) (ρ : Fin 256 → Row) (i : S1x1x256.Idx) : EReal := ((delta W (ρ (i 2)) j : ℝ) : EReal)
theorem Tdelta_at (j : Fin 4) (W : Wts) (ρ : Fin 256 → Row) (o : Fin 1) (p : Fin 1) (r : Fin 256) : Tdelta j W ρ (ix3 o p r) = ((delta W (ρ r) j : ℝ) : EReal) := rfl

/-- A row with what a point adds to row `k` of the sums. -/
def Radd (k : Fin 16) (W : Wts) (ρ : Fin 256 → Row) (v : S1x1024.Idx → EReal) (i : S1x1024.Idx) : EReal :=
  v i + ((∑ r, part W (ρ r) k (i 1) : ℝ) : EReal)
theorem Radd_at (k : Fin 16) (W : Wts) (ρ : Fin 256 → Row) (v : S1x1024.Idx → EReal) (o : Fin 1) (c : Fin 1024) :
    Radd k W ρ v (ix2 o c) = v (ix2 o c) + ((∑ r, part W (ρ r) k c : ℝ) : EReal) := rfl

variable (W : Wts) (ρ : Fin 256 → Row) (v : S1x1024.Idx → EReal)

theorem alpha : FloatOps.ofBits (F := Ideal) .f32 0x3F9837F0#32 = ((cA : ℝ) : EReal) := bits_A

theorem pay4 : k0_pay4 (F := Ideal) (Ixh ρ) = Ixh ρ := by
  funext i; idx_vars i
  pointwise [k0_pay4, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay5 : k0_pay5 (F := Ideal) (Ixh ρ) (Vg1 W) (Vb1 W) = Tx1 W ρ := by
  funext i; idx_vars i
  pointwise [k0_pay5, pay4, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay6 : k0_pay6 (F := Ideal) (Ixh ρ) (Vg1 W) (Vb1 W) (Vscm W) (Vshm W) = Tum W ρ := by
  funext i; idx_vars i
  pointwise [k0_pay6, pay5, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay7 : k0_pay7 (F := Ideal) (Ixh ρ) (Vg1 W) (Vb1 W) (Vscm W) (Vshm W) = Tum W ρ := by
  funext i; idx_vars i
  pointwise [k0_pay7, pay6, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay8 : k0_pay8 (F := Ideal)  = Zr W ρ := by
  funext i; idx_vars i
  pointwise [k0_pay8, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay9 : k0_pay9 (F := Ideal) (Ixh ρ) (Vg1 W) (Vb1 W) (Vscm W) (Vshm W) (WA 0 W) = Thp 0 W ρ := by
  funext i; idx_vars i
  pointwise [k0_pay9, pay6, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay10 : k0_pay10 (F := Ideal) (Ixh ρ) (Vg1 W) (Vb1 W) (Vscm W) (Vshm W) (WA 0 W) = Thp3 0 W ρ := by
  funext i; idx_vars i
  pointwise [k0_pay10, pay9, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay11 : k0_pay11 (F := Ideal) (Thp 0 W ρ) = Tact 0 W ρ := by
  funext i; idx_vars i
  pointwise [k0_pay11, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay12 : k0_pay12 (F := Ideal) (Thp 0 W ρ) = Tact 0 W ρ := by
  funext i; idx_vars i
  pointwise [k0_pay12, pay11, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay13 : k0_pay13 (F := Ideal) (Tum W ρ) (WA 1 W) = Thp 1 W ρ := by
  funext i; idx_vars i
  pointwise [k0_pay13, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay14 : k0_pay14 (F := Ideal) (Tum W ρ) (WA 1 W) = Thp3 1 W ρ := by
  funext i; idx_vars i
  pointwise [k0_pay14, pay13, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay15 : k0_pay15 (F := Ideal) (Tum W ρ) (WA 1 W) = Tact 1 W ρ := by
  funext i; idx_vars i
  pointwise [k0_pay15, pay13, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay16 : k0_pay16 (F := Ideal) (Tum W ρ) (WA 1 W) = Tact 1 W ρ := by
  funext i; idx_vars i
  pointwise [k0_pay16, pay15, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay17 : k0_pay17 (F := Ideal) (Tum W ρ) (Zr W ρ) (Thp 0 W ρ) (WB 0 W) (WA 1 W) (WB 1 W) = Thh2 W ρ := by
  funext i; idx_vars i
  pointwise [k0_pay17, pay11, pay15, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay18 : k0_pay18 (F := Ideal) (Tum W ρ) (WA 2 W) = Thp 2 W ρ := by
  funext i; idx_vars i
  pointwise [k0_pay18, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay19 : k0_pay19 (F := Ideal) (Thp 2 W ρ) = Thp3 2 W ρ := by
  funext i; idx_vars i
  pointwise [k0_pay19, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay20 : k0_pay20 (F := Ideal) (Thp 2 W ρ) = Tact 2 W ρ := by
  funext i; idx_vars i
  pointwise [k0_pay20, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay21 : k0_pay21 (F := Ideal) (Thp 2 W ρ) = Tact 2 W ρ := by
  funext i; idx_vars i
  pointwise [k0_pay21, pay20, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay22 : k0_pay22 (F := Ideal) (Tum W ρ) (WA 3 W) = Thp 3 W ρ := by
  funext i; idx_vars i
  pointwise [k0_pay22, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay23 : k0_pay23 (F := Ideal) (Tum W ρ) (WA 3 W) = Thp3 3 W ρ := by
  funext i; idx_vars i
  pointwise [k0_pay23, pay22, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay24 : k0_pay24 (F := Ideal) (Tum W ρ) (WA 3 W) = Tact 3 W ρ := by
  funext i; idx_vars i
  pointwise [k0_pay24, pay22, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay25 : k0_pay25 (F := Ideal) (Tum W ρ) (WA 3 W) = Tact 3 W ρ := by
  funext i; idx_vars i
  pointwise [k0_pay25, pay24, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay26 : k0_pay26 (F := Ideal) (Tum W ρ) (Thh2 W ρ) (Thp 2 W ρ) (WB 2 W) (WA 3 W) (WB 3 W) = Thh W ρ := by
  funext i; idx_vars i
  pointwise [k0_pay26, pay20, pay24, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  exact congrArg _ (sum_q fun k => act W (ρ i0) k * W.w2 k i1)

theorem pay27 : k0_pay27 (F := Ideal) (Tx1 W ρ) (Thh W ρ) ((cA : ℝ) : EReal) (Vgm W) = Txc2 W ρ := by
  funext i; idx_vars i
  pointwise [k0_pay27, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay28 : k0_pay28 (F := Ideal) (Tx1 W ρ) (Thh W ρ) ((cA : ℝ) : EReal) (Vgm W) = Trs2 W ρ := by
  funext i; idx_vars i
  pointwise [k0_pay28, pay27, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  exact r_rsqrt (var_pos (xc2 W (ρ i0)))

theorem pay29 : k0_pay29 (F := Ideal) (Tx1 W ρ) (Thh W ρ) ((cA : ℝ) : EReal) (Vgm W) = Txh2 W ρ := by
  funext i; idx_vars i
  pointwise [k0_pay29, pay27, pay28, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay30 : k0_pay30 (F := Ideal) (Tx1 W ρ) (Thh W ρ) ((cA : ℝ) : EReal) (Vgm W) (Vg2 W) (Vb2 W) (Itgt ρ) = Terr W ρ := by
  funext i; idx_vars i
  pointwise [k0_pay30, pay29, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay32 : k0_pay32 (F := Ideal) (k0_pay31 (F := Ideal) (Tx1 W ρ) (Thh W ρ) ((cA : ℝ) : EReal) (Vgm W) (Vg2 W) (Vb2 W) (Itgt ρ)) = ((∑ r, part W (ρ r) 8 0 : ℝ) : EReal) := by
  pointwise [k0_pay32, k0_pay31, pay30, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  refine congrArg _ ?_
  rw [Finset.mul_sum]
  refine Finset.sum_congr rfl fun k _ => ?_
  rw [Fin.sum_univ_one]
  rfl

theorem pay33 : k0_pay33 (F := Ideal) (Terr W ρ) = Tdy W ρ := by
  funext i; idx_vars i
  pointwise [k0_pay33, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay34 : k0_pay34 (F := Ideal) (Trs2 W ρ) (Txh2 W ρ) (Terr W ρ) (Vg2 W) = Tdr2 W ρ := by
  funext i; idx_vars i
  pointwise [k0_pay34, pay33, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay35 : k0_pay35 (F := Ideal) (Trs2 W ρ) (Txh2 W ρ) (Terr W ρ) (Vg2 W) (Vgm W) = Tdh W ρ := by
  funext i; idx_vars i
  pointwise [k0_pay35, pay34, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay36 : k0_pay36 (F := Ideal) (Trs2 W ρ) (Txh2 W ρ) (Terr W ρ) (Vg2 W) (Vgm W) = Tdh W ρ := by
  funext i; idx_vars i
  pointwise [k0_pay36, pay35, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay37 : k0_pay37 (F := Ideal) (Txh2 W ρ) (Terr W ρ) v = Radd 0 W ρ v := by
  funext i; idx_vars i
  pointwise [k0_pay37, pay33, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay38 : k0_pay38 (F := Ideal) (Tdy W ρ) v = Radd 1 W ρ v := by
  funext i; idx_vars i
  pointwise [k0_pay38, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay39 : k0_pay39 (F := Ideal) (Thh W ρ) (Tdr2 W ρ) v = Radd 2 W ρ v := by
  funext i; idx_vars i
  pointwise [k0_pay39, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay40 : k0_pay40 (F := Ideal) (((∑ r, part W (ρ r) 8 0 : ℝ) : EReal)) v = Radd 8 W ρ v := by
  funext i; idx_vars i
  pointwise [k0_pay40, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay41 : k0_pay41 (F := Ideal)  = Zr W ρ := by
  funext i; idx_vars i
  pointwise [k0_pay41, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay42 : k0_pay42 (F := Ideal) (Tdh W ρ) (WB 0 W) (Thp3 0 W ρ) = Tdhp 0 W ρ := by
  funext i; idx_vars i
  pointwise [k0_pay42, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay43 : k0_pay43 (F := Ideal) (Tdhp 0 W ρ) = Tdhp 0 W ρ := by
  funext i; idx_vars i
  pointwise [k0_pay43, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay44 : k0_pay44 (F := Ideal) (Tdh W ρ) (WB 1 W) (Thp3 1 W ρ) = Tdhp 1 W ρ := by
  funext i; idx_vars i
  pointwise [k0_pay44, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay45 : k0_pay45 (F := Ideal) (Tdh W ρ) (WB 1 W) (Thp3 1 W ρ) = Tdhp 1 W ρ := by
  funext i; idx_vars i
  pointwise [k0_pay45, pay44, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay46 : k0_pay46 (F := Ideal) (Tdh W ρ) (Zr W ρ) (Tdhp 0 W ρ) (WA 0 W) (WB 1 W) (Thp3 1 W ρ) (WA 1 W) = Tdu2 W ρ := by
  funext i; idx_vars i
  pointwise [k0_pay46, pay44, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay47 : k0_pay47 (F := Ideal) (Tdh W ρ) (WB 2 W) = Tnt 2 W ρ := by
  funext i; idx_vars i
  pointwise [k0_pay47, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay48 : k0_pay48 (F := Ideal) (Thp3 2 W ρ) = Thp 2 W ρ := by
  funext i; idx_vars i
  pointwise [k0_pay48, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay49 : k0_pay49 (F := Ideal)  = Zr W ρ := by
  funext i; idx_vars i
  pointwise [k0_pay49, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay50 : k0_pay50 (F := Ideal) (Tnt 2 W ρ) (Thp 2 W ρ) (Zr W ρ) = Tdhp 2 W ρ := by
  funext i; idx_vars i
  pointwise [k0_pay50, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay51 : k0_pay51 (F := Ideal) (Tnt 2 W ρ) (Thp 2 W ρ) (Zr W ρ) = Tdhp 2 W ρ := by
  funext i; idx_vars i
  pointwise [k0_pay51, pay50, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay52 : k0_pay52 (F := Ideal) (Tdh W ρ) (WB 3 W) (Thp3 3 W ρ) = Tdhp 3 W ρ := by
  funext i; idx_vars i
  pointwise [k0_pay52, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay53 : k0_pay53 (F := Ideal) (Tdh W ρ) (WB 3 W) (Thp3 3 W ρ) = Tdhp 3 W ρ := by
  funext i; idx_vars i
  pointwise [k0_pay53, pay52, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay54 : k0_pay54 (F := Ideal) (Tdh W ρ) (Tdu2 W ρ) (Tnt 2 W ρ) (Thp 2 W ρ) (Zr W ρ) (WA 2 W) (WB 3 W) (Thp3 3 W ρ) (WA 3 W) = Tdu W ρ := by
  funext i; idx_vars i
  pointwise [k0_pay54, pay50, pay52, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  exact congrArg _ (sum_q fun k => dhp W (ρ i0) k * W.w1 i1 k)

theorem pay55 : k0_pay55 (F := Ideal) v = v := by
  funext i; idx_vars i
  pointwise [k0_pay55, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay56 : k0_pay56 (F := Ideal) (Tx1 W ρ) (Tdh W ρ) (Tdu2 W ρ) (Tnt 2 W ρ) (Thp 2 W ρ) (Zr W ρ) (WA 2 W) (WB 3 W) (Thp3 3 W ρ) (WA 3 W) = Tdux W ρ := by
  funext i; idx_vars i
  pointwise [k0_pay56, pay54, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay57 : k0_pay57 (F := Ideal) v (Tdux W ρ) = Radd 3 W ρ v := by
  funext i; idx_vars i
  pointwise [k0_pay57, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay58 : k0_pay58 (F := Ideal) (Tdu W ρ) v = Radd 4 W ρ v := by
  funext i; idx_vars i
  pointwise [k0_pay58, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay59 : k0_pay59 (F := Ideal) (Tdr2 W ρ) (Tdu W ρ) (Vscm W) = Tdx1 W ρ := by
  funext i; idx_vars i
  pointwise [k0_pay59, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay60 : k0_pay60 (F := Ideal) (Ixh ρ) (Tdr2 W ρ) (Tdu W ρ) (Vscm W) v = Radd 5 W ρ v := by
  funext i; idx_vars i
  pointwise [k0_pay60, pay59, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay61 : k0_pay61 (F := Ideal) (Tdr2 W ρ) (Tdu W ρ) (Vscm W) v = Radd 6 W ρ v := by
  funext i; idx_vars i
  pointwise [k0_pay61, pay59, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay62 : k0_pay62 (F := Ideal) (Ixh ρ) (Tdx1 W ρ) (Vg1 W) (Irs ρ) = Tdr1 W ρ := by
  funext i; idx_vars i
  pointwise [k0_pay62, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay63 : k0_pay63 (F := Ideal) (Ixh ρ) (Tdx1 W ρ) (Vg1 W) (Irs ρ) = Tdr1 W ρ := by
  funext i; idx_vars i
  pointwise [k0_pay63, pay62, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay64 : k0_pay64 (F := Ideal) (Ixh ρ) (Tdx1 W ρ) (Vg1 W) (Irs ρ) v (Imix ρ) = Radd 7 W ρ v := by
  funext i; idx_vars i
  pointwise [k0_pay64, pay62, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay65 : k0_pay65 (F := Ideal) (Ixh ρ) (Tdx1 W ρ) (Vg1 W) (Irs ρ) (Vga W) = Tdmix W ρ := by
  funext i; idx_vars i
  pointwise [k0_pay65, pay62, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  all_goals rfl

theorem pay66 : k0_pay66 (F := Ideal) (Tdmix W ρ) = Tdmix W ρ := by
  funext i; idx_vars i
  pointwise [k0_pay66, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay67 : k0_pay67 (F := Ideal) (Tdmix W ρ) (WO W) = Tdcat W ρ := by
  funext i; idx_vars i
  pointwise [k0_pay67, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay68 : k0_pay68 (F := Ideal) (Tdmix W ρ) (WO W) = Tdcat W ρ := by
  funext i; idx_vars i
  pointwise [k0_pay68, pay67, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]

theorem pay69 : k0_pay69 (F := Ideal) (Tdmix W ρ) (WO W) (Iom 0 ρ) = Tdelta 0 W ρ := by
  funext i; idx_vars i
  pointwise [k0_pay69, pay67, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  refine congrArg _ (Finset.sum_congr rfl fun k _ => congrArg₂ (· * ·) (congrArg _ (Fin.ext ?_)) rfl)
  show 512 + k.val = 512 + (0 * 128 + k.val)
  omega

theorem pay70 : k0_pay70 (F := Ideal) (Tdmix W ρ) (WO W) (Iom 1 ρ) = Tdelta 1 W ρ := by
  funext i; idx_vars i
  pointwise [k0_pay70, pay67, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  refine congrArg _ (Finset.sum_congr rfl fun k _ => congrArg₂ (· * ·) (congrArg _ (Fin.ext ?_)) rfl)
  show 640 + k.val = 512 + (1 * 128 + k.val)
  omega

theorem pay71 : k0_pay71 (F := Ideal) (Tdmix W ρ) (WO W) (Iom 2 ρ) = Tprod 2 W ρ := by
  funext i; idx_vars i
  pointwise [k0_pay71, pay67, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  refine congrArg _ (congrArg₂ (· * ·) (congrArg _ (Fin.ext ?_)) rfl)
  show 768 + i1.val = 512 + (2 * 128 + i1.val)
  omega

theorem pay1 : k0_pay1 (F := Ideal) (Tprod 2 W ρ) = Tdelta 2 W ρ := by
  funext i; idx_vars i
  pointwise [k0_pay1, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  try simp only [bits_A, bits_E, bits_N, bits_I, bits_2, bits_H, zero_add, r_zero, r_one, r_add, r_mul, r_sub, r_max, r_divN, r_sum]
  all_goals rfl

theorem pay2 : k0_pay2 (F := Ideal) (Tdcat W ρ) (Iom 3 ρ) = Tdelta 3 W ρ := by
  funext i; idx_vars i
  pointwise [k0_pay2, Ixh_at, Imix_at, Itgt_at, Irs_at, Iom_at, Vg1_at, Vb1_at, Vscm_at, Vshm_at, Vgm_at, Vga_at, Vg2_at, Vb2_at, WA_at, WB_at, WO_at, Zr_at, Tx1_at, Tum_at, Thh2_at, Thh_at, Txc2_at, Trs2_at, Txh2_at, Terr_at, Tdy_at, Tdr2_at, Tdh_at, Tdu2_at, Tdu_at, Tdux_at, Tdx1_at, Tdr1_at, Tdmix_at, Tdcat_at, Thp_at, Tact_at, Thp3_at, Tnt_at, Tdhp_at, Tprod_at, Tdelta_at, Radd_at]
  simp only [bits_A, bits_E, bits_N, bits_I, bits_2, bits_H, zero_add, r_zero, r_one, r_add, r_mul, r_sub, r_max, r_divN, r_sum]
  refine congrArg _ (Finset.sum_congr rfl fun k _ => congrArg₂ (· * ·) (congrArg _ (Fin.ext ?_)) rfl)
  show 896 + k.val = 512 + (3 * 128 + k.val)
  omega

end Cert.KernelIdeal.Val

end

end
-- ==== Proof.KerIn.lean ====
module

public import proofs.«01_k».proof.Proof.Frame
public import proofs.«01_k».proof.Proof.KerPure
public import Idealize.ShloMosaic.Lib.Pipeline.ValueKit

/-! What the host operations before the kernel leave, and the blocks of it that a point reads, in the terms of
    `Cert.Spec`. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

variable (m : (ℓ : Loc nD τ sig) → Buf (Elt Ideal) ℓ) (c : Dev nD) (t : Fin cfg0.N) (A : Inp)

/-- Device `c`'s arguments are the reals of `A`. -/
structure Args : Prop where
  a0 : m (c, Proc.tc.devRef main_arg0) = X0 A
  a1 : m (c, Proc.tc.devRef main_arg1) = X1 A
  a2 : m (c, Proc.tc.devRef main_arg2) = X2 A
  a3 : m (c, Proc.tc.devRef main_arg3) = X3 A
  a4 : m (c, Proc.tc.devRef main_arg4) = X4 A
  a5 : m (c, Proc.tc.devRef main_arg5) = X5 A
  a6 : m (c, Proc.tc.devRef main_arg6) = X6 A
  a7 : m (c, Proc.tc.devRef main_arg7) = X7 A
  a8 : m (c, Proc.tc.devRef main_arg8) = X8 A
  a9 : m (c, Proc.tc.devRef main_arg9) = X9 A
  a10 : m (c, Proc.tc.devRef main_arg10) = X10 A
  a11 : m (c, Proc.tc.devRef main_arg11) = X11 A
  a12 : m (c, Proc.tc.devRef main_arg12) = X12 A
  a13 : m (c, Proc.tc.devRef main_arg13) = X13 A
  a14 : m (c, Proc.tc.devRef main_arg14) = X14 A

/-- The block of each window at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0, t.val] :=
  (by decide +kernel : ∀ t : Fin grid0.N, _)

theorem tN (t : Fin cfg0.N) : t.val < 16 := Nat.lt_of_lt_of_eq t.isLt N_0

/-- The tokens of a point's tile. -/
def tk (A : Inp) (t : Fin cfg0.N) (r : Fin 256) : Row := tok A ⟨t.val * 256 + r.val, by have := tN t; omega⟩

def H0 (i : S4096x1024.Idx) : EReal := ((cat A (i 0) (i 1) : ℝ) : EReal)
theorem H0_at (r : Fin 4096) (c : Fin 1024) : H0 A (ix2 r c) = ((cat A r c : ℝ) : EReal) := rfl

def H1 (i : S4096x1024.Idx) : EReal := ((mix A (i 0) (i 1) : ℝ) : EReal)
theorem H1_at (r : Fin 4096) (c : Fin 1024) : H1 A (ix2 r c) = ((mix A r c : ℝ) : EReal) := rfl

def H8 (i : S4096x1024.Idx) : EReal := ((r1 A (i 0) (i 1) : ℝ) : EReal)
theorem H8_at (r : Fin 4096) (c : Fin 1024) : H8 A (ix2 r c) = ((r1 A r c : ℝ) : EReal) := rfl

def H14 (i : S4096x1024.Idx) : EReal := ((xc1 A (i 0) (i 1) : ℝ) : EReal)
theorem H14_at (r : Fin 4096) (c : Fin 1024) : H14 A (ix2 r c) = ((xc1 A r c : ℝ) : EReal) := rfl

def H22 (i : S4096x1.Idx) : EReal := ((rs1 A (i 0) : ℝ) : EReal)
theorem H22_at (r : Fin 4096) (z : Fin 1) : H22 A (ix2 r z) = ((rs1 A r : ℝ) : EReal) := rfl

def H24 (i : S4096x1024.Idx) : EReal := (((tok A (i 0)).xh (i 1) : ℝ) : EReal)
theorem H24_at (r : Fin 4096) (c : Fin 1024) : H24 A (ix2 r c) = (((tok A r).xh c : ℝ) : EReal) := rfl

def H28 (i : S4x512x1024.Idx) : EReal := ((A.W.w1 ⟨(i 1).val, Nat.lt_trans (i 1).isLt (by decide)⟩ (q (i 0) (i 2)) : ℝ) : EReal)
theorem H28_at (j : Fin 4) (k : Fin 512) (c : Fin 1024) : H28 A (ix3 j k c) = ((A.W.w1 ⟨k.val, by omega⟩ (q j c) : ℝ) : EReal) := rfl

def H32 (i : S4x512x1024.Idx) : EReal := ((A.W.w1 ⟨512 + (i 1).val, Nat.add_lt_add_left (i 1).isLt 512⟩ (q (i 0) (i 2)) : ℝ) : EReal)
theorem H32_at (j : Fin 4) (k : Fin 512) (c : Fin 1024) : H32 A (ix3 j k c) = ((A.W.w1 ⟨512 + k.val, by omega⟩ (q j c) : ℝ) : EReal) := rfl

def H34 (i : S4x1024x1024.Idx) : EReal := ((A.W.w2 (q (i 0) (i 1)) (i 2) : ℝ) : EReal)
theorem H34_at (j : Fin 4) (k : Fin 1024) (c : Fin 1024) : H34 A (ix3 j k c) = ((A.W.w2 (q j k) c : ℝ) : EReal) := rfl

def H35 (i : S1024x1024.Idx) : EReal := ((A.W.wo (i 0) (i 1) : ℝ) : EReal)
theorem H35_at (k : Fin 1024) (c : Fin 1024) : H35 A (ix2 k c) = ((A.W.wo k c : ℝ) : EReal) := rfl

theorem K0 : concatenate S4096x1024 1 [⟨S4096x512, X1 A⟩, ⟨S4096x512, X2 A⟩] concatenates_S4096x512_S4096x512_S4096x1024_d1 = H0 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  unfold cat; split <;> rfl

theorem K1 : Host.dotGeneral (F := Ideal) (φ₁ := .f32) (φ₂ := .f32) dot_S4096x1024_S1024x1024_S4096x1024_1_0_0_1_n_n none (H0 A) (X12 A) = H1 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  simp only [bits_A, bits_E, bits_N, bits_I, bits_2, bits_H, zero_add, r_zero, r_one, r_add, r_mul, r_sub, r_max, r_divN, r_sum]
  rfl

theorem K8 : addf (mulf (broadcastInDim S4096x1024 ![] bcast_S_S4096x1024 (constant (F := Ideal) S_ .f32 0x3F9837F0#32)) (X0 A)) (mulf (broadcastInDim S4096x1024 ![0, 1] bcast_S1x1024_S4096x1024_0_1 (addf (broadcastInDim S1x1024 ![] bcast_S_S1x1024 (constant (F := Ideal) S_ .f32 0x3F800000#32)) (X4 A))) (H1 A)) = H8 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  simp only [bits_A, bits_E, bits_N, bits_I, bits_2, bits_H, zero_add, r_zero, r_one, r_add, r_mul, r_sub, r_max, r_divN, r_sum]
  rfl

theorem K14 : subf (H8 A) (broadcastInDim S4096x1024 ![0, 1] bcast_S4096x1_S4096x1024_0_1 (Host.divf (broadcastInDim S4096x1 ![0] bcast_S4096_S4096x1_0 (Host.reduceAdd (H8 A) (constant (F := Ideal) S_ .f32 0x00000000#32) reducesTo_S4096x1024_S4096_d1 h_S_)) (broadcastInDim S4096x1 ![] bcast_S_S4096x1 (constant (F := Ideal) S_ .f32 0x44800000#32)))) = H14 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  simp only [bits_A, bits_E, bits_N, bits_I, bits_2, bits_H, zero_add, r_zero, r_one, r_add, r_mul, r_sub, r_max, r_divN, r_sum]
  rfl

theorem K22 : Host.rsqrt (addf (Host.divf (broadcastInDim S4096x1 ![0] bcast_S4096_S4096x1_0 (Host.reduceAdd (mulf (φ := .f32) (H14 A) (H14 A)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x3727C5AC#32))) = H22 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  simp only [bits_A, bits_E, bits_N, bits_I, bits_2, bits_H, zero_add, r_zero, r_one, r_add, r_mul, r_sub, r_max, r_divN, r_sum]
  exact r_rsqrt (var_pos (xc1 A i0))

theorem K24 : mulf (F := Ideal) (φ := .f32) (H14 A) (broadcastInDim S4096x1024 ![0, 1] bcast_S4096x1_S4096x1024_0_1 (H22 A)) = H24 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  simp only [bits_A, bits_E, bits_N, bits_I, bits_2, bits_H, zero_add, r_zero, r_one, r_add, r_mul, r_sub, r_max, r_divN, r_sum]
  rfl

theorem K28 : transpose S4x512x1024 [1, 0, 2] (shapeCast S512x4x1024 (truncf (F := Ideal) (φ := .f32) .bf16 (extractStridedSlice S512x4096 ![0, 0] (X13 A) slices_S1024x4096_S512x4096_0_0) bitsLt_bf16_f32) shapeCasts_S512x4096_S512x4x1024) transposes_S512x4x1024_S4x512x1024_1_0_2 = H28 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  all_goals rfl

theorem K32 : transpose S4x512x1024 [1, 0, 2] (shapeCast S512x4x1024 (truncf (F := Ideal) (φ := .f32) .bf16 (extractStridedSlice S512x4096 ![512, 0] (X13 A) slices_S1024x4096_S512x4096_512_0) bitsLt_bf16_f32) shapeCasts_S512x4096_S512x4x1024) transposes_S512x4x1024_S4x512x1024_1_0_2 = H32 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  all_goals rfl

theorem K34 : shapeCast S4x1024x1024 (truncf (F := Ideal) (φ := .f32) .bf16 (X14 A) bitsLt_bf16_f32) shapeCasts_S4096x1024_S4x1024x1024 = H34 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  all_goals rfl

theorem K35 : truncf (F := Ideal) (φ := .f32) .bf16 (X12 A) bitsLt_bf16_f32 = H35 A := by
  funext i; idx_vars i
  pointwise [H0_at, H1_at, H8_at, H14_at, H22_at, H24_at, H28_at, H32_at, H34_at, H35_at, X0_at, X1_at, X2_at, X3_at, X4_at, X5_at, X6_at, X7_at, X8_at, X9_at, X10_at, X11_at, X12_at, X13_at, X14_at]
  all_goals rfl

variable {m c A} (h : Args m c A)
include h

theorem V24 : V m c main_v24 = H24 A := by
  entry_read
  rw [h.a0, h.a1, h.a2, h.a4, h.a12]
  first | rw [K0] | erw [K0]
  first | rw [K1] | erw [K1]
  first | rw [K8] | erw [K8]
  first | rw [K14] | erw [K14]
  first | rw [K22] | erw [K22]
  first | rw [K24] | erw [K24]

theorem V22 : V m c main_v22 = H22 A := by
  entry_read
  rw [h.a0, h.a1, h.a2, h.a4, h.a12]
  first | rw [K0] | erw [K0]
  first | rw [K1] | erw [K1]
  first | rw [K8] | erw [K8]
  first | rw [K14] | erw [K14]
  first | rw [K22] | erw [K22]

theorem V1 : V m c main_v1 = H1 A := by
  entry_read
  rw [h.a1, h.a2, h.a12]
  first | rw [K0] | erw [K0]
  first | rw [K1] | erw [K1]

theorem V28 : V m c main_v28 = H28 A := by
  entry_read
  rw [h.a13]
  first | rw [K28] | erw [K28]

theorem V32 : V m c main_v32 = H32 A := by
  entry_read
  rw [h.a13]
  first | rw [K32] | erw [K32]

theorem V34 : V m c main_v34 = H34 A := by
  entry_read
  rw [h.a14]
  first | rw [K34] | erw [K34]

theorem V35 : V m c main_v35 = H35 A := by
  entry_read
  rw [h.a12]
  first | rw [K35] | erw [K35]

/-- The row vectors, stacked. -/
def H36 (A : Inp) (k : Fin 8) (x : Fin 1024) : ℝ :=
  if k.val = 0 then A.W.g1 x else if k.val = 1 then A.W.b1 x else if k.val = 2 then A.W.scm x else if k.val = 3 then A.W.shm x
  else if k.val = 4 then A.W.gm x else if k.val = 5 then A.W.ga x else if k.val = 6 then A.W.g2 x else A.W.b2 x

omit h in
theorem K36 (k : Fin 8) (x : Fin 1024) : concatenate S8x1024 0 [⟨S1x1024, X8 A⟩, ⟨S1x1024, X9 A⟩, ⟨S1x1024, X6 A⟩, ⟨S1x1024, X5 A⟩, ⟨S1x1024, X7 A⟩, ⟨S1x1024, X4 A⟩, ⟨S1x1024, X10 A⟩, ⟨S1x1024, X11 A⟩]
      concatenates_S1x1024_S1x1024_S1x1024_S1x1024_S1x1024_S1x1024_S1x1024_S1x1024_S8x1024_d0 (ix2 k x) = ((H36 A k x : ℝ) : EReal) := by
  pointwise [X0_at, X1_at, X2_at, X3_at, X4_at, X5_at, X6_at, X7_at, X8_at, X9_at, X10_at, X11_at, X12_at, X13_at, X14_at]
  unfold H36
  fin_vals k with hk
  all_goals simp [hk]

theorem V36 (k : Fin 8) (x : Fin 1024) : V m c main_v36 (ix2 k x) = ((H36 A k x : ℝ) : EReal) := by
  rw [← K36, ← h.a8, ← h.a9, ← h.a6, ← h.a5, ← h.a7, ← h.a4, ← h.a10, ← h.a11]
  refine congrFun (?_ : V m c main_v36 = _) _
  entry_read
  rfl

theorem ib0 : iblk m c 0 t = Ixh (tk A t) := by
  funext i; idx_vars i
  have := tN t
  have e : iblk m c 0 t (ix2 i0 i1) = V m c main_v24 (ix2 ⟨t.val * 256 + i0.val, by omega⟩ i1) := by
    blk_ext [iblk, idx t]
  rw [e, V24 h]
  rfl

theorem ib1 : iblk m c 1 t = Irs (tk A t) := by
  funext i; idx_vars i
  have := tN t
  have e : iblk m c 1 t (ix2 i0 i1) = V m c main_v22 (ix2 ⟨t.val * 256 + i0.val, by omega⟩ i1) := by
    blk_ext [iblk, idx t]
  rw [e, V22 h]
  rfl

theorem ib2 : iblk m c 2 t = Imix (tk A t) := by
  funext i; idx_vars i
  have := tN t
  have e : iblk m c 2 t (ix2 i0 i1) = V m c main_v1 (ix2 ⟨t.val * 256 + i0.val, by omega⟩ i1) := by
    blk_ext [iblk, idx t]
  rw [e, V1 h]
  rfl

theorem ib3 : iblk m c 3 t = Itgt (tk A t) := by
  funext i; idx_vars i
  have := tN t
  have e : iblk m c 3 t (ix2 i0 i1) = V m c main_arg3 (ix2 ⟨t.val * 256 + i0.val, by omega⟩ i1) := by
    blk_ext [iblk, idx t]
  rw [e, (V_main_arg3 m c).trans h.a3]
  rfl

theorem ib4 (r : Fin 256) (k : Fin 512) : iblk m c 4 t (ix2 r k) = (((tk A t r).om k : ℝ) : EReal) := by
  have := tN t
  have e : iblk m c 4 t (ix2 r k) = V m c main_arg2 (ix2 ⟨t.val * 256 + r.val, by omega⟩ k) := by
    blk_ext [iblk, idx t]
  rw [e, (V_main_arg2 m c).trans h.a2]
  rfl
omit h in
theorem ib5 (r : Fin 8) (k : Fin 1024) : iblk m c 5 t (ix2 r k) = V m c main_v36 (ix2 r k) := by
  blk_ext [iblk, idx t]

theorem ld5_0 : @View.ld (Elt Ideal) S8x1024 .f32 (iblk m c 5 t) (Rect.unit ![0, 0] ![1, 1024] inb_S8x1024_S1x1024_0_0) = Vg1 A.W := by
  funext i; idx_vars i
  pointwise []
  rw [ib5 t, V36 h]
  rfl

theorem ld5_1 : @View.ld (Elt Ideal) S8x1024 .f32 (iblk m c 5 t) (Rect.unit ![1, 0] ![1, 1024] inb_S8x1024_S1x1024_1_0) = Vb1 A.W := by
  funext i; idx_vars i
  pointwise []
  rw [ib5 t, V36 h]
  rfl

theorem ld5_2 : @View.ld (Elt Ideal) S8x1024 .f32 (iblk m c 5 t) (Rect.unit ![2, 0] ![1, 1024] inb_S8x1024_S1x1024_2_0) = Vscm A.W := by
  funext i; idx_vars i
  pointwise []
  rw [ib5 t, V36 h]
  rfl

theorem ld5_3 : @View.ld (Elt Ideal) S8x1024 .f32 (iblk m c 5 t) (Rect.unit ![3, 0] ![1, 1024] inb_S8x1024_S1x1024_3_0) = Vshm A.W := by
  funext i; idx_vars i
  pointwise []
  rw [ib5 t, V36 h]
  rfl

theorem ld5_4 : @View.ld (Elt Ideal) S8x1024 .f32 (iblk m c 5 t) (Rect.unit ![4, 0] ![1, 1024] inb_S8x1024_S1x1024_4_0) = Vgm A.W := by
  funext i; idx_vars i
  pointwise []
  rw [ib5 t, V36 h]
  rfl

theorem ld5_5 : @View.ld (Elt Ideal) S8x1024 .f32 (iblk m c 5 t) (Rect.unit ![5, 0] ![1, 1024] inb_S8x1024_S1x1024_5_0) = Vga A.W := by
  funext i; idx_vars i
  pointwise []
  rw [ib5 t, V36 h]
  rfl

theorem ld5_6 : @View.ld (Elt Ideal) S8x1024 .f32 (iblk m c 5 t) (Rect.unit ![6, 0] ![1, 1024] inb_S8x1024_S1x1024_6_0) = Vg2 A.W := by
  funext i; idx_vars i
  pointwise []
  rw [ib5 t, V36 h]
  rfl

theorem ld5_7 : @View.ld (Elt Ideal) S8x1024 .f32 (iblk m c 5 t) (Rect.unit ![7, 0] ![1, 1024] inb_S8x1024_S1x1024_7_0) = Vb2 A.W := by
  funext i; idx_vars i
  pointwise []
  rw [ib5 t, V36 h]
  rfl

theorem ld4_0 : @View.ld (Elt Ideal) S256x512 .f32 (iblk m c 4 t) (Rect.unit ![0, 0] ![256, 128] inb_S256x512_S256x128_0_0) = Iom 0 (tk A t) := by
  funext i; idx_vars i
  pointwise []
  rw [ib4 t h]
  refine congrArg (fun k => (((tk A t i0).om k : ℝ) : EReal)) (Fin.ext ?_)
  show i1.val = 0 * 128 + i1.val
  omega

theorem ld4_1 : @View.ld (Elt Ideal) S256x512 .f32 (iblk m c 4 t) (Rect.unit ![0, 128] ![256, 128] inb_S256x512_S256x128_0_128) = Iom 1 (tk A t) := by
  funext i; idx_vars i
  pointwise []
  rw [ib4 t h]
  refine congrArg (fun k => (((tk A t i0).om k : ℝ) : EReal)) (Fin.ext ?_)
  show 128 + i1.val = 1 * 128 + i1.val
  omega

theorem ld4_2 : @View.ld (Elt Ideal) S256x512 .f32 (iblk m c 4 t) (Rect.unit ![0, 256] ![256, 128] inb_S256x512_S256x128_0_256) = Iom 2 (tk A t) := by
  funext i; idx_vars i
  pointwise []
  rw [ib4 t h]
  refine congrArg (fun k => (((tk A t i0).om k : ℝ) : EReal)) (Fin.ext ?_)
  show 256 + i1.val = 2 * 128 + i1.val
  omega

theorem ld4_3 : @View.ld (Elt Ideal) S256x512 .f32 (iblk m c 4 t) (Rect.unit ![0, 384] ![256, 128] inb_S256x512_S256x128_0_384) = Iom 3 (tk A t) := by
  funext i; idx_vars i
  pointwise []
  rw [ib4 t h]
  refine congrArg (fun k => (((tk A t i0).om k : ℝ) : EReal)) (Fin.ext ?_)
  show 384 + i1.val = 3 * 128 + i1.val
  omega

end Cert.KernelIdeal.Val

end

end
-- ==== Proof.KerScr.lean ====
module

public import proofs.«01_k».proof.Proof.KerIn
public import Idealize.ShloMosaic.Lib.Pipeline.ReadBack

/-! The weights the kernel keeps across its points, and what its loads of them read. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

/-- The first hidden weight as it is kept, a quarter of its columns at a time. -/
def Z0 (W : Wts) (i : S4x1024x1024.Idx) : EReal := ((W.w1 (i 1) (q (i 0) (i 2)) : ℝ) : EReal)
/-- The second, a quarter of its rows at a time. -/
def Z1 (W : Wts) (i : S4x1024x1024.Idx) : EReal := ((W.w2 (q (i 0) (i 1)) (i 2) : ℝ) : EReal)
theorem Z0_at (W : Wts) (j : Fin 4) (k c : Fin 1024) : Z0 W (ix3 j k c) = ((W.w1 k (q j c) : ℝ) : EReal) := rfl
theorem Z1_at (W : Wts) (j : Fin 4) (k c : Fin 1024) : Z1 W (ix3 j k c) = ((W.w2 (q j k) c : ℝ) : EReal) := rfl

theorem can0 (A : Inp) (y : S4x1024x1024.Idx) : View.canon (s := S4x1024x1024) (e := .bf16) (Val := Elt Ideal) [⟨Rect.unit ![0, 512, 0] ![4, 512, 1024] inb_S4x1024x1024_S4x512x1024_0_512_0, ReadAs.same.apply (View.read (Elt Ideal) (View.whole main_v32) (H32 A))⟩, ⟨Rect.unit ![0, 0, 0] ![4, 512, 1024] inb_S4x1024x1024_S4x512x1024_0_0_0, ReadAs.same.apply (View.read (Elt Ideal) (View.whole main_v28) (H28 A))⟩] y = Z0 A.W y := by
  canon_tiles y hy
  · show H32 A y = _
    refine congrArg (fun x : ℝ => (x : EReal)) (congrArg₂ A.W.w1 (Fin.ext hy1.symm) (Fin.ext ?_))
    show (y 0).val * 1024 + (y 2).val = (_ : Fin 4).val * 1024 + (_ : Fin 1024).val
    rw [hy0, hy2]
  · show H28 A y = _
    refine congrArg (fun x : ℝ => (x : EReal)) (congrArg₂ A.W.w1 (Fin.ext hy1.symm) (Fin.ext ?_))
    show (y 0).val * 1024 + (y 2).val = (_ : Fin 4).val * 1024 + (_ : Fin 1024).val
    rw [hy0, hy2]

theorem can1 (A : Inp) (y : S4x1024x1024.Idx) : View.canon (s := S4x1024x1024) (e := .bf16) (Val := Elt Ideal) [⟨Rect.whole S4x1024x1024, ReadAs.same.apply (View.read (Elt Ideal) (View.whole main_v34) (H34 A))⟩] y = Z1 A.W y := by
  exact congrFun (View.canon_cons_unit_zero (S := S4x1024x1024) (e := .bf16) (Val := Elt Ideal) rfl (fun _ => (Nat.zero_add _).le) (H34 A) []) y

theorem can2 (A : Inp) (y : S1024x1024.Idx) : View.canon (s := S1024x1024) (e := .bf16) (Val := Elt Ideal) [⟨Rect.whole S1024x1024, ReadAs.same.apply (View.read (Elt Ideal) (View.whole main_v35) (H35 A))⟩] y = WO A.W y := by
  exact congrFun (View.canon_cons_unit_zero (S := S1024x1024) (e := .bf16) (Val := Elt Ideal) rfl (fun _ => (Nat.zero_add _).le) (H35 A) []) y

theorem ldB0_0 (W : Wts) : @View.ld (Elt Ideal) S4x1024x1024 .bf16 (View.read (Elt Ideal) (View.whole cc0_scratch0) ((Memref.isWhole_whole cc0_scratch0).unread (Z0 W))) (Rect.unit ![0, 0, 0] ![1, 1024, 1024] inb_S4x1024x1024_S1x1024x1024_0_0_0) = WA 0 W := by
  funext i; idx_vars i
  pointwise [WA_at]
  exact congrFun ((Memref.isWhole_whole cc0_scratch0).read_unread (Val := Elt Ideal) (Z0 W)) (ix3 0 i1 i2)

theorem ldA0_0 {m : (ℓ : Loc nD τ sig) → Buf (Elt Ideal) ℓ} {c : Dev nD} {A : Inp} (h : Args m c A) :
    (View.whole cc0_scratch0).readCov (Val := Elt Ideal) [⟨Rect.unit ![0, 512, 0] ![4, 512, 1024] inb_S4x1024x1024_S4x512x1024_0_512_0, ReadAs.same.apply (View.read (Elt Ideal) (View.whole main_v32) (V m c main_v32))⟩, ⟨Rect.unit ![0, 0, 0] ![4, 512, 1024] inb_S4x1024x1024_S4x512x1024_0_0_0, ReadAs.same.apply (View.read (Elt Ideal) (View.whole main_v28) (V m c main_v28))⟩] (Rect.unit ![0, 0, 0] ![1, 1024, 1024] inb_S4x1024x1024_S1x1024x1024_0_0_0).toLoadRect = WA 0 A.W := by
  rw [View.readCov_eq_canon', V32 h, V28 h]
  funext i; idx_vars i
  refine (can0 A _).trans ?_
  have e : (Rect.unit ![0, 0, 0] ![1, 1024, 1024] inb_S4x1024x1024_S1x1024x1024_0_0_0).emb (ix3 i0 i1 i2) = (ix3 0 i1 i2 : S4x1024x1024.Idx) := by
    blk_ext []
  rw [WA_at, ← Z0_at]
  exact congrArg (Z0 A.W) e

theorem ldB0_1 (W : Wts) : @View.ld (Elt Ideal) S4x1024x1024 .bf16 (View.read (Elt Ideal) (View.whole cc0_scratch0) ((Memref.isWhole_whole cc0_scratch0).unread (Z0 W))) (Rect.unit ![1, 0, 0] ![1, 1024, 1024] inb_S4x1024x1024_S1x1024x1024_1_0_0) = WA 1 W := by
  funext i; idx_vars i
  pointwise [WA_at]
  exact congrFun ((Memref.isWhole_whole cc0_scratch0).read_unread (Val := Elt Ideal) (Z0 W)) (ix3 1 i1 i2)

theorem ldA0_1 {m : (ℓ : Loc nD τ sig) → Buf (Elt Ideal) ℓ} {c : Dev nD} {A : Inp} (h : Args m c A) :
    (View.whole cc0_scratch0).readCov (Val := Elt Ideal) [⟨Rect.unit ![0, 512, 0] ![4, 512, 1024] inb_S4x1024x1024_S4x512x1024_0_512_0, ReadAs.same.apply (View.read (Elt Ideal) (View.whole main_v32) (V m c main_v32))⟩, ⟨Rect.unit ![0, 0, 0] ![4, 512, 1024] inb_S4x1024x1024_S4x512x1024_0_0_0, ReadAs.same.apply (View.read (Elt Ideal) (View.whole main_v28) (V m c main_v28))⟩] (Rect.unit ![1, 0, 0] ![1, 1024, 1024] inb_S4x1024x1024_S1x1024x1024_1_0_0).toLoadRect = WA 1 A.W := by
  rw [View.readCov_eq_canon', V32 h, V28 h]
  funext i; idx_vars i
  refine (can0 A _).trans ?_
  have e : (Rect.unit ![1, 0, 0] ![1, 1024, 1024] inb_S4x1024x1024_S1x1024x1024_1_0_0).emb (ix3 i0 i1 i2) = (ix3 1 i1 i2 : S4x1024x1024.Idx) := by
    blk_ext []
  rw [WA_at, ← Z0_at]
  exact congrArg (Z0 A.W) e

theorem ldB0_2 (W : Wts) : @View.ld (Elt Ideal) S4x1024x1024 .bf16 (View.read (Elt Ideal) (View.whole cc0_scratch0) ((Memref.isWhole_whole cc0_scratch0).unread (Z0 W))) (Rect.unit ![2, 0, 0] ![1, 1024, 1024] inb_S4x1024x1024_S1x1024x1024_2_0_0) = WA 2 W := by
  funext i; idx_vars i
  pointwise [WA_at]
  exact congrFun ((Memref.isWhole_whole cc0_scratch0).read_unread (Val := Elt Ideal) (Z0 W)) (ix3 2 i1 i2)

theorem ldA0_2 {m : (ℓ : Loc nD τ sig) → Buf (Elt Ideal) ℓ} {c : Dev nD} {A : Inp} (h : Args m c A) :
    (View.whole cc0_scratch0).readCov (Val := Elt Ideal) [⟨Rect.unit ![0, 512, 0] ![4, 512, 1024] inb_S4x1024x1024_S4x512x1024_0_512_0, ReadAs.same.apply (View.read (Elt Ideal) (View.whole main_v32) (V m c main_v32))⟩, ⟨Rect.unit ![0, 0, 0] ![4, 512, 1024] inb_S4x1024x1024_S4x512x1024_0_0_0, ReadAs.same.apply (View.read (Elt Ideal) (View.whole main_v28) (V m c main_v28))⟩] (Rect.unit ![2, 0, 0] ![1, 1024, 1024] inb_S4x1024x1024_S1x1024x1024_2_0_0).toLoadRect = WA 2 A.W := by
  rw [View.readCov_eq_canon', V32 h, V28 h]
  funext i; idx_vars i
  refine (can0 A _).trans ?_
  have e : (Rect.unit ![2, 0, 0] ![1, 1024, 1024] inb_S4x1024x1024_S1x1024x1024_2_0_0).emb (ix3 i0 i1 i2) = (ix3 2 i1 i2 : S4x1024x1024.Idx) := by
    blk_ext []
  rw [WA_at, ← Z0_at]
  exact congrArg (Z0 A.W) e

theorem ldB0_3 (W : Wts) : @View.ld (Elt Ideal) S4x1024x1024 .bf16 (View.read (Elt Ideal) (View.whole cc0_scratch0) ((Memref.isWhole_whole cc0_scratch0).unread (Z0 W))) (Rect.unit ![3, 0, 0] ![1, 1024, 1024] inb_S4x1024x1024_S1x1024x1024_3_0_0) = WA 3 W := by
  funext i; idx_vars i
  pointwise [WA_at]
  exact congrFun ((Memref.isWhole_whole cc0_scratch0).read_unread (Val := Elt Ideal) (Z0 W)) (ix3 3 i1 i2)

theorem ldA0_3 {m : (ℓ : Loc nD τ sig) → Buf (Elt Ideal) ℓ} {c : Dev nD} {A : Inp} (h : Args m c A) :
    (View.whole cc0_scratch0).readCov (Val := Elt Ideal) [⟨Rect.unit ![0, 512, 0] ![4, 512, 1024] inb_S4x1024x1024_S4x512x1024_0_512_0, ReadAs.same.apply (View.read (Elt Ideal) (View.whole main_v32) (V m c main_v32))⟩, ⟨Rect.unit ![0, 0, 0] ![4, 512, 1024] inb_S4x1024x1024_S4x512x1024_0_0_0, ReadAs.same.apply (View.read (Elt Ideal) (View.whole main_v28) (V m c main_v28))⟩] (Rect.unit ![3, 0, 0] ![1, 1024, 1024] inb_S4x1024x1024_S1x1024x1024_3_0_0).toLoadRect = WA 3 A.W := by
  rw [View.readCov_eq_canon', V32 h, V28 h]
  funext i; idx_vars i
  refine (can0 A _).trans ?_
  have e : (Rect.unit ![3, 0, 0] ![1, 1024, 1024] inb_S4x1024x1024_S1x1024x1024_3_0_0).emb (ix3 i0 i1 i2) = (ix3 3 i1 i2 : S4x1024x1024.Idx) := by
    blk_ext []
  rw [WA_at, ← Z0_at]
  exact congrArg (Z0 A.W) e

theorem ldB1_0 (W : Wts) : @View.ld (Elt Ideal) S4x1024x1024 .bf16 (View.read (Elt Ideal) (View.whole cc0_scratch1) ((Memref.isWhole_whole cc0_scratch1).unread (Z1 W))) (Rect.unit ![0, 0, 0] ![1, 1024, 1024] inb_S4x1024x1024_S1x1024x1024_0_0_0) = WB 0 W := by
  funext i; idx_vars i
  pointwise [WB_at]
  exact congrFun ((Memref.isWhole_whole cc0_scratch1).read_unread (Val := Elt Ideal) (Z1 W)) (ix3 0 i1 i2)

theorem ldA1_0 {m : (ℓ : Loc nD τ sig) → Buf (Elt Ideal) ℓ} {c : Dev nD} {A : Inp} (h : Args m c A) :
    (View.whole cc0_scratch1).readCov (Val := Elt Ideal) [⟨Rect.whole S4x1024x1024, ReadAs.same.apply (View.read (Elt Ideal) (View.whole main_v34) (V m c main_v34))⟩] (Rect.unit ![0, 0, 0] ![1, 1024, 1024] inb_S4x1024x1024_S1x1024x1024_0_0_0).toLoadRect = WB 0 A.W := by
  rw [View.readCov_eq_canon', V34 h]
  funext i; idx_vars i
  refine (can1 A _).trans ?_
  have e : (Rect.unit ![0, 0, 0] ![1, 1024, 1024] inb_S4x1024x1024_S1x1024x1024_0_0_0).emb (ix3 i0 i1 i2) = (ix3 0 i1 i2 : S4x1024x1024.Idx) := by
    blk_ext []
  rw [WB_at, ← Z1_at]
  exact congrArg (Z1 A.W) e

theorem ldB1_1 (W : Wts) : @View.ld (Elt Ideal) S4x1024x1024 .bf16 (View.read (Elt Ideal) (View.whole cc0_scratch1) ((Memref.isWhole_whole cc0_scratch1).unread (Z1 W))) (Rect.unit ![1, 0, 0] ![1, 1024, 1024] inb_S4x1024x1024_S1x1024x1024_1_0_0) = WB 1 W := by
  funext i; idx_vars i
  pointwise [WB_at]
  exact congrFun ((Memref.isWhole_whole cc0_scratch1).read_unread (Val := Elt Ideal) (Z1 W)) (ix3 1 i1 i2)

theorem ldA1_1 {m : (ℓ : Loc nD τ sig) → Buf (Elt Ideal) ℓ} {c : Dev nD} {A : Inp} (h : Args m c A) :
    (View.whole cc0_scratch1).readCov (Val := Elt Ideal) [⟨Rect.whole S4x1024x1024, ReadAs.same.apply (View.read (Elt Ideal) (View.whole main_v34) (V m c main_v34))⟩] (Rect.unit ![1, 0, 0] ![1, 1024, 1024] inb_S4x1024x1024_S1x1024x1024_1_0_0).toLoadRect = WB 1 A.W := by
  rw [View.readCov_eq_canon', V34 h]
  funext i; idx_vars i
  refine (can1 A _).trans ?_
  have e : (Rect.unit ![1, 0, 0] ![1, 1024, 1024] inb_S4x1024x1024_S1x1024x1024_1_0_0).emb (ix3 i0 i1 i2) = (ix3 1 i1 i2 : S4x1024x1024.Idx) := by
    blk_ext []
  rw [WB_at, ← Z1_at]
  exact congrArg (Z1 A.W) e

theorem ldB1_2 (W : Wts) : @View.ld (Elt Ideal) S4x1024x1024 .bf16 (View.read (Elt Ideal) (View.whole cc0_scratch1) ((Memref.isWhole_whole cc0_scratch1).unread (Z1 W))) (Rect.unit ![2, 0, 0] ![1, 1024, 1024] inb_S4x1024x1024_S1x1024x1024_2_0_0) = WB 2 W := by
  funext i; idx_vars i
  pointwise [WB_at]
  exact congrFun ((Memref.isWhole_whole cc0_scratch1).read_unread (Val := Elt Ideal) (Z1 W)) (ix3 2 i1 i2)

theorem ldA1_2 {m : (ℓ : Loc nD τ sig) → Buf (Elt Ideal) ℓ} {c : Dev nD} {A : Inp} (h : Args m c A) :
    (View.whole cc0_scratch1).readCov (Val := Elt Ideal) [⟨Rect.whole S4x1024x1024, ReadAs.same.apply (View.read (Elt Ideal) (View.whole main_v34) (V m c main_v34))⟩] (Rect.unit ![2, 0, 0] ![1, 1024, 1024] inb_S4x1024x1024_S1x1024x1024_2_0_0).toLoadRect = WB 2 A.W := by
  rw [View.readCov_eq_canon', V34 h]
  funext i; idx_vars i
  refine (can1 A _).trans ?_
  have e : (Rect.unit ![2, 0, 0] ![1, 1024, 1024] inb_S4x1024x1024_S1x1024x1024_2_0_0).emb (ix3 i0 i1 i2) = (ix3 2 i1 i2 : S4x1024x1024.Idx) := by
    blk_ext []
  rw [WB_at, ← Z1_at]
  exact congrArg (Z1 A.W) e

theorem ldB1_3 (W : Wts) : @View.ld (Elt Ideal) S4x1024x1024 .bf16 (View.read (Elt Ideal) (View.whole cc0_scratch1) ((Memref.isWhole_whole cc0_scratch1).unread (Z1 W))) (Rect.unit ![3, 0, 0] ![1, 1024, 1024] inb_S4x1024x1024_S1x1024x1024_3_0_0) = WB 3 W := by
  funext i; idx_vars i
  pointwise [WB_at]
  exact congrFun ((Memref.isWhole_whole cc0_scratch1).read_unread (Val := Elt Ideal) (Z1 W)) (ix3 3 i1 i2)

theorem ldA1_3 {m : (ℓ : Loc nD τ sig) → Buf (Elt Ideal) ℓ} {c : Dev nD} {A : Inp} (h : Args m c A) :
    (View.whole cc0_scratch1).readCov (Val := Elt Ideal) [⟨Rect.whole S4x1024x1024, ReadAs.same.apply (View.read (Elt Ideal) (View.whole main_v34) (V m c main_v34))⟩] (Rect.unit ![3, 0, 0] ![1, 1024, 1024] inb_S4x1024x1024_S1x1024x1024_3_0_0).toLoadRect = WB 3 A.W := by
  rw [View.readCov_eq_canon', V34 h]
  funext i; idx_vars i
  refine (can1 A _).trans ?_
  have e : (Rect.unit ![3, 0, 0] ![1, 1024, 1024] inb_S4x1024x1024_S1x1024x1024_3_0_0).emb (ix3 i0 i1 i2) = (ix3 3 i1 i2 : S4x1024x1024.Idx) := by
    blk_ext []
  rw [WB_at, ← Z1_at]
  exact congrArg (Z1 A.W) e

theorem ldH_0 (W : Wts) (ρ : Fin 256 → Row) : @View.readCov sig .tc .vmem S4x256x1024 .f32 (Elt Ideal) _ (View.whole cc0_scratch3) [⟨Rect.unit ![3, 0, 0] ![1, 256, 1024] inb_S4x256x1024_S1x256x1024_3_0_0, Thp3 3 W ρ⟩, ⟨Rect.unit ![2, 0, 0] ![1, 256, 1024] inb_S4x256x1024_S1x256x1024_2_0_0, Thp3 2 W ρ⟩, ⟨Rect.unit ![1, 0, 0] ![1, 256, 1024] inb_S4x256x1024_S1x256x1024_1_0_0, Thp3 1 W ρ⟩, ⟨Rect.unit ![0, 0, 0] ![1, 256, 1024] inb_S4x256x1024_S1x256x1024_0_0_0, Thp3 0 W ρ⟩] (Rect.unit ![0, 0, 0] ![1, 256, 1024] inb_S4x256x1024_S1x256x1024_0_0_0).toLoadRect = Thp3 0 W ρ := by
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem ldH_1 (W : Wts) (ρ : Fin 256 → Row) : @View.readCov sig .tc .vmem S4x256x1024 .f32 (Elt Ideal) _ (View.whole cc0_scratch3) [⟨Rect.unit ![3, 0, 0] ![1, 256, 1024] inb_S4x256x1024_S1x256x1024_3_0_0, Thp3 3 W ρ⟩, ⟨Rect.unit ![2, 0, 0] ![1, 256, 1024] inb_S4x256x1024_S1x256x1024_2_0_0, Thp3 2 W ρ⟩, ⟨Rect.unit ![1, 0, 0] ![1, 256, 1024] inb_S4x256x1024_S1x256x1024_1_0_0, Thp3 1 W ρ⟩, ⟨Rect.unit ![0, 0, 0] ![1, 256, 1024] inb_S4x256x1024_S1x256x1024_0_0_0, Thp3 0 W ρ⟩] (Rect.unit ![1, 0, 0] ![1, 256, 1024] inb_S4x256x1024_S1x256x1024_1_0_0).toLoadRect = Thp3 1 W ρ := by
  rw [View.readCov_skip _ _ _ _ _ (by decide +kernel)]
  rw [View.readCov_skip _ _ _ _ _ (by decide +kernel)]
  exact View.readCov_cons_toLoadRect _ _ _ _

theorem ldH_2 (W : Wts) (ρ : Fin 256 → Row) : @View.readCov sig .tc .vmem S4x256x1024 .f32 (Elt Ideal) _ (View.whole cc0_scratch3) [⟨Rect.unit ![3, 0, 0] ![1, 256, 1024] inb_S4x256x1024_S1x256x1024_3_0_0, Thp3 3 W ρ⟩, ⟨Rect.unit ![2, 0, 0] ![1, 256, 1024] inb_S4x256x1024_S1x256x1024_2_0_0, Thp3 2 W ρ⟩, ⟨Rect.unit ![1, 0, 0] ![1, 256, 1024] inb_S4x256x1024_S1x256x1024_1_0_0, Thp3 1 W ρ⟩, ⟨Rect.unit ![0, 0, 0] ![1, 256, 1024] inb_S4x256x1024_S1x256x1024_0_0_0, Thp3 0 W ρ⟩] (Rect.unit ![2, 0, 0] ![1, 256, 1024] inb_S4x256x1024_S1x256x1024_2_0_0).toLoadRect = Thp3 2 W ρ := by
  rw [View.readCov_skip _ _ _ _ _ (by decide +kernel)]
  exact View.readCov_cons_toLoadRect _ _ _ _

theorem ldH_3 (W : Wts) (ρ : Fin 256 → Row) : @View.readCov sig .tc .vmem S4x256x1024 .f32 (Elt Ideal) _ (View.whole cc0_scratch3) [⟨Rect.unit ![3, 0, 0] ![1, 256, 1024] inb_S4x256x1024_S1x256x1024_3_0_0, Thp3 3 W ρ⟩, ⟨Rect.unit ![2, 0, 0] ![1, 256, 1024] inb_S4x256x1024_S1x256x1024_2_0_0, Thp3 2 W ρ⟩, ⟨Rect.unit ![1, 0, 0] ![1, 256, 1024] inb_S4x256x1024_S1x256x1024_1_0_0, Thp3 1 W ρ⟩, ⟨Rect.unit ![0, 0, 0] ![1, 256, 1024] inb_S4x256x1024_S1x256x1024_0_0_0, Thp3 0 W ρ⟩] (Rect.unit ![3, 0, 0] ![1, 256, 1024] inb_S4x256x1024_S1x256x1024_3_0_0).toLoadRect = Thp3 3 W ρ := by
  exact View.readCov_cons_toLoadRect _ _ _ _

theorem ldA2 {m : (ℓ : Loc nD τ sig) → Buf (Elt Ideal) ℓ} {c : Dev nD} {A : Inp} (h : Args m c A) :
    @View.readCov sig .tc .vmem S1024x1024 .bf16 (Elt Ideal) _ (View.whole cc0_scratch2) [⟨Rect.whole S1024x1024, ReadAs.same.apply (View.read (Elt Ideal) (View.whole main_v35) (V m c main_v35))⟩] (Rect.unit ![0, 0] ![1024, 1024] inb_S1024x1024_S1024x1024_0_0).toLoadRect = WO A.W := by
  rw [View.readCov_eq_canon', V35 h]
  funext i; idx_vars i
  refine (can2 A _).trans ?_
  have e : (Rect.unit ![0, 0] ![1024, 1024] inb_S1024x1024_S1024x1024_0_0).emb (ix2 i0 i1) = (ix2 i0 i1 : S1024x1024.Idx) := by
    blk_ext []
  exact congrArg (WO A.W) e

end Cert.KernelIdeal.Val

end

end
-- ==== Proof.KerCan.lean ====
module

public import proofs.«01_k».proof.Proof.KerScr
public import Idealize.ShloMosaic.Lib.WritesUnit
public import Idealize.ShloMosaic.Lib.Pipeline.ReadBack

/-! The tiles a point leaves in the output windows, put together from the parts it stores. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

/-- The tiles of the wide results. -/
def T6 (W : Wts) (ρ : Fin 256 → Row) (i : S256x4096.Idx) : EReal := ((act W (ρ (i 0)) (i 1) : ℝ) : EReal)
def T7 (W : Wts) (ρ : Fin 256 → Row) (i : S256x4096.Idx) : EReal := ((dhp W (ρ (i 0)) (i 1) : ℝ) : EReal)
/-- The tile of the heads' inner products. -/
def T14 (W : Wts) (ρ : Fin 256 → Row) (i : S4x1x256.Idx) : EReal := ((delta W (ρ (i 2)) (i 0) : ℝ) : EReal)
/-- The sums over the tokens after a point, from those before it. -/
def T13 (W : Wts) (ρ : Fin 256 → Row) (v : S16x1024.Idx → EReal) (i : S16x1024.Idx) : EReal :=
  v i + ((∑ r, part W (ρ r) (i 0) (i 1) : ℝ) : EReal)
theorem T13_at (W : Wts) (ρ : Fin 256 → Row) (v : S16x1024.Idx → EReal) (k : Fin 16) (c : Fin 1024) :
    T13 W ρ v (ix2 k c) = v (ix2 k c) + ((∑ r, part W (ρ r) k c : ℝ) : EReal) := rfl

theorem part_far (W : Wts) (ρ : Row) (k : Fin 16) (c : Fin 1024) (hk : 9 ≤ k.val) : part W ρ k c = 0 := by
  unfold part
  simp only [show k.val ≠ 0 by omega, show k.val ≠ 1 by omega, show k.val ≠ 2 by omega, show k.val ≠ 3 by omega, show k.val ≠ 4 by omega,
    show k.val ≠ 5 by omega, show k.val ≠ 6 by omega, show k.val ≠ 7 by omega, show k.val ≠ 8 by omega, if_false]

theorem sum_far (W : Wts) (ρ : Fin 256 → Row) (k : Fin 16) (c : Fin 1024) (hk : 9 ≤ k.val) :
    ((∑ r, part W (ρ r) k c : ℝ) : EReal) = 0 := by
  rw [Finset.sum_eq_zero fun r _ => part_far W (ρ r) k c hk]
  rfl

variable (W : Wts) (ρ : Fin 256 → Row)

theorem can6 (y : S256x4096.Idx) : View.canon (s := S256x4096) (e := .bf16) (Val := Elt Ideal) [⟨Rect.unit ![0, 3072] ![256, 1024] inb_S256x4096_S256x1024_0_3072, Tact 3 W ρ⟩, ⟨Rect.unit ![0, 2048] ![256, 1024] inb_S256x4096_S256x1024_0_2048, Tact 2 W ρ⟩, ⟨Rect.unit ![0, 1024] ![256, 1024] inb_S256x4096_S256x1024_0_1024, Tact 1 W ρ⟩, ⟨Rect.unit ![0, 0] ![256, 1024] inb_S256x4096_S256x1024_0_0, Tact 0 W ρ⟩] y = T6 W ρ y := by
  canon_tiles y hy
  · refine congrArg (fun x : ℝ => (x : EReal)) (congrArg₂ (fun r f => act W (ρ r) f) (Fin.ext hy0.symm) (Fin.ext ?_))
    show 3 * 1024 + (y 1).val = _
    rw [hy1]
  · refine congrArg (fun x : ℝ => (x : EReal)) (congrArg₂ (fun r f => act W (ρ r) f) (Fin.ext hy0.symm) (Fin.ext ?_))
    show 2 * 1024 + (y 1).val = _
    rw [hy1]
  · refine congrArg (fun x : ℝ => (x : EReal)) (congrArg₂ (fun r f => act W (ρ r) f) (Fin.ext hy0.symm) (Fin.ext ?_))
    show 1 * 1024 + (y 1).val = _
    rw [hy1]
  · refine congrArg (fun x : ℝ => (x : EReal)) (congrArg₂ (fun r f => act W (ρ r) f) (Fin.ext hy0.symm) (Fin.ext ?_))
    show 0 * 1024 + (y 1).val = _
    rw [hy1]
    omega

theorem can7 (y : S256x4096.Idx) : View.canon (s := S256x4096) (e := .bf16) (Val := Elt Ideal) [⟨Rect.unit ![0, 3072] ![256, 1024] inb_S256x4096_S256x1024_0_3072, Tdhp 3 W ρ⟩, ⟨Rect.unit ![0, 2048] ![256, 1024] inb_S256x4096_S256x1024_0_2048, Tdhp 2 W ρ⟩, ⟨Rect.unit ![0, 1024] ![256, 1024] inb_S256x4096_S256x1024_0_1024, Tdhp 1 W ρ⟩, ⟨Rect.unit ![0, 0] ![256, 1024] inb_S256x4096_S256x1024_0_0, Tdhp 0 W ρ⟩] y = T7 W ρ y := by
  canon_tiles y hy
  · refine congrArg (fun x : ℝ => (x : EReal)) (congrArg₂ (fun r f => dhp W (ρ r) f) (Fin.ext hy0.symm) (Fin.ext ?_))
    show 3 * 1024 + (y 1).val = _
    rw [hy1]
  · refine congrArg (fun x : ℝ => (x : EReal)) (congrArg₂ (fun r f => dhp W (ρ r) f) (Fin.ext hy0.symm) (Fin.ext ?_))
    show 2 * 1024 + (y 1).val = _
    rw [hy1]
  · refine congrArg (fun x : ℝ => (x : EReal)) (congrArg₂ (fun r f => dhp W (ρ r) f) (Fin.ext hy0.symm) (Fin.ext ?_))
    show 1 * 1024 + (y 1).val = _
    rw [hy1]
  · refine congrArg (fun x : ℝ => (x : EReal)) (congrArg₂ (fun r f => dhp W (ρ r) f) (Fin.ext hy0.symm) (Fin.ext ?_))
    show 0 * 1024 + (y 1).val = _
    rw [hy1]
    omega

theorem can14 (y : S4x1x256.Idx) : View.canon (s := S4x1x256) (e := .f32) (Val := Elt Ideal) [⟨Rect.unit ![3, 0, 0] ![1, 1, 256] inb_S4x1x256_S1x1x256_3_0_0, Tdelta 3 W ρ⟩, ⟨Rect.unit ![2, 0, 0] ![1, 1, 256] inb_S4x1x256_S1x1x256_2_0_0, Tdelta 2 W ρ⟩, ⟨Rect.unit ![1, 0, 0] ![1, 1, 256] inb_S4x1x256_S1x1x256_1_0_0, Tdelta 1 W ρ⟩, ⟨Rect.unit ![0, 0, 0] ![1, 1, 256] inb_S4x1x256_S1x1x256_0_0_0, Tdelta 0 W ρ⟩] y = T14 W ρ y := by
  canon_tiles y hy
  · refine congrArg (fun x : ℝ => (x : EReal)) (congrArg₂ (fun r f => delta W (ρ r) f) (Fin.ext hy2.symm) (Fin.ext ?_))
    show 3 = _
    omega
  · refine congrArg (fun x : ℝ => (x : EReal)) (congrArg₂ (fun r f => delta W (ρ r) f) (Fin.ext hy2.symm) (Fin.ext ?_))
    show 2 = _
    omega
  · refine congrArg (fun x : ℝ => (x : EReal)) (congrArg₂ (fun r f => delta W (ρ r) f) (Fin.ext hy2.symm) (Fin.ext ?_))
    show 1 = _
    omega
  · refine congrArg (fun x : ℝ => (x : EReal)) (congrArg₂ (fun r f => delta W (ρ r) f) (Fin.ext hy2.symm) (Fin.ext ?_))
    show 0 = _
    omega

theorem pay3 : k0_pay3 (F := Ideal) = fun _ => 0 := by
  funext i; idx_vars i
  pointwise [k0_pay3]
  all_goals simp only [r_zero]

theorem skip13 (V : View sig .tc .vmem S16x1024 .f32) (f : V.ty.Contents (Elt Ideal)) (o : ℕ) (inb : ∀ a : Fin 2, (![o, 0] : Fin 2 → ℕ) a + (![1, 1024] : Fin 2 → ℕ) a ≤ S16x1024.size a)
    (w : S1x1024.Idx → EReal) (L : List (View.Piece (Elt Ideal) S16x1024 .f32)) (k : Fin 16) (c : Fin 1024) (h : k.val < o ∨ o + 1 ≤ k.val) :
    V.read (Elt Ideal) (V.writes (Elt Ideal) f (⟨Rect.unit ![o, 0] ![1, 1024] inb, w⟩ :: L)) (ix2 k c) = V.read (Elt Ideal) (V.writes (Elt Ideal) f L) (ix2 k c) :=
  View.read_writes_cons_rows_of_not_mem (o := o) (W := 1) V f inb w L (ix2 k c) rfl rfl h

theorem hit13 (V : View sig .tc .vmem S16x1024 .f32) (f : V.ty.Contents (Elt Ideal)) (o : ℕ) (inb : ∀ a : Fin 2, (![o, 0] : Fin 2 → ℕ) a + (![1, 1024] : Fin 2 → ℕ) a ≤ S16x1024.size a)
    (w : S1x1024.Idx → EReal) (L : List (View.Piece (Elt Ideal) S16x1024 .f32)) (k : Fin 16) (c : Fin 1024) (h : k.val = o) :
    V.read (Elt Ideal) (V.writes (Elt Ideal) f (⟨Rect.unit ![o, 0] ![1, 1024] inb, w⟩ :: L)) (ix2 k c) = w (ix2 0 c) :=
  View.read_writes_cons_rows_of_mem (o := o) V f inb w L (ix2 k c) (ix2 0 c) rfl h rfl

theorem whole13 (V : View sig .tc .vmem S16x1024 .f32) (f : V.ty.Contents (Elt Ideal)) (inb : ∀ a : Fin 2, (![0, 0] : Fin 2 → ℕ) a + (![16, 1024] : Fin 2 → ℕ) a ≤ S16x1024.size a)
    (w : S16x1024.Idx → EReal) (L : List (View.Piece (Elt Ideal) S16x1024 .f32)) (k : Fin 16) (c : Fin 1024) :
    V.read (Elt Ideal) (V.writes (Elt Ideal) f (⟨Rect.unit ![0, 0] ![16, 1024] inb, w⟩ :: L)) (ix2 k c) = w (ix2 k c) :=
  View.read_writes_cons_rows_of_mem (o := 0) V f inb w L (ix2 k c) (ix2 k c) rfl (Nat.zero_add _).symm rfl

/-- The nine rows a point adds to, read back, whatever was there before. -/
theorem rows13 (V : View sig .tc .vmem S16x1024 .f32) (f : V.ty.Contents (Elt Ideal)) (w : Fin 9 → S1x1024.Idx → EReal) (L : List (View.Piece (Elt Ideal) S16x1024 .f32))
    (G : S16x1024.Idx → EReal) (k : Fin 16) (c : Fin 1024) (hw : ∀ j : Fin 9, w j (ix2 0 c) = G (ix2 (Fin.castLE (by decide) j) c))
    (hL : 9 ≤ k.val → V.read (Elt Ideal) (V.writes (Elt Ideal) f L) (ix2 k c) = G (ix2 k c)) :
    V.read (Elt Ideal) (V.writes (Elt Ideal) f (⟨Rect.unit ![7, 0] ![1, 1024] inb_S16x1024_S1x1024_7_0, w 7⟩ :: ⟨Rect.unit ![6, 0] ![1, 1024] inb_S16x1024_S1x1024_6_0, w 6⟩ :: ⟨Rect.unit ![5, 0] ![1, 1024] inb_S16x1024_S1x1024_5_0, w 5⟩ :: ⟨Rect.unit ![4, 0] ![1, 1024] inb_S16x1024_S1x1024_4_0, w 4⟩ :: ⟨Rect.unit ![3, 0] ![1, 1024] inb_S16x1024_S1x1024_3_0, w 3⟩ :: ⟨Rect.unit ![8, 0] ![1, 1024] inb_S16x1024_S1x1024_8_0, w 8⟩ :: ⟨Rect.unit ![2, 0] ![1, 1024] inb_S16x1024_S1x1024_2_0, w 2⟩ :: ⟨Rect.unit ![1, 0] ![1, 1024] inb_S16x1024_S1x1024_1_0, w 1⟩ :: ⟨Rect.unit ![0, 0] ![1, 1024] inb_S16x1024_S1x1024_0_0, w 0⟩ :: L)) (ix2 k c) = G (ix2 k c) := by
  by_cases h7 : k.val = 7
  · rw [hit13 _ _ 7 _ _ _ _ _ h7, hw]
    exact congrArg G (congrArg (fun r : Fin 16 => ix2 r c) (Fin.ext h7.symm))
  rw [skip13 _ _ 7 _ _ _ _ _ (by omega)]
  by_cases h6 : k.val = 6
  · rw [hit13 _ _ 6 _ _ _ _ _ h6, hw]
    exact congrArg G (congrArg (fun r : Fin 16 => ix2 r c) (Fin.ext h6.symm))
  rw [skip13 _ _ 6 _ _ _ _ _ (by omega)]
  by_cases h5 : k.val = 5
  · rw [hit13 _ _ 5 _ _ _ _ _ h5, hw]
    exact congrArg G (congrArg (fun r : Fin 16 => ix2 r c) (Fin.ext h5.symm))
  rw [skip13 _ _ 5 _ _ _ _ _ (by omega)]
  by_cases h4 : k.val = 4
  · rw [hit13 _ _ 4 _ _ _ _ _ h4, hw]
    exact congrArg G (congrArg (fun r : Fin 16 => ix2 r c) (Fin.ext h4.symm))
  rw [skip13 _ _ 4 _ _ _ _ _ (by omega)]
  by_cases h3 : k.val = 3
  · rw [hit13 _ _ 3 _ _ _ _ _ h3, hw]
    exact congrArg G (congrArg (fun r : Fin 16 => ix2 r c) (Fin.ext h3.symm))
  rw [skip13 _ _ 3 _ _ _ _ _ (by omega)]
  by_cases h8 : k.val = 8
  · rw [hit13 _ _ 8 _ _ _ _ _ h8, hw]
    exact congrArg G (congrArg (fun r : Fin 16 => ix2 r c) (Fin.ext h8.symm))
  rw [skip13 _ _ 8 _ _ _ _ _ (by omega)]
  by_cases h2 : k.val = 2
  · rw [hit13 _ _ 2 _ _ _ _ _ h2, hw]
    exact congrArg G (congrArg (fun r : Fin 16 => ix2 r c) (Fin.ext h2.symm))
  rw [skip13 _ _ 2 _ _ _ _ _ (by omega)]
  by_cases h1 : k.val = 1
  · rw [hit13 _ _ 1 _ _ _ _ _ h1, hw]
    exact congrArg G (congrArg (fun r : Fin 16 => ix2 r c) (Fin.ext h1.symm))
  rw [skip13 _ _ 1 _ _ _ _ _ (by omega)]
  by_cases h0 : k.val = 0
  · rw [hit13 _ _ 0 _ _ _ _ _ h0, hw]
    exact congrArg G (congrArg (fun r : Fin 16 => ix2 r c) (Fin.ext h0.symm))
  rw [skip13 _ _ 0 _ _ _ _ _ (by omega)]
  exact hL (by omega)

theorem RaddV_0 (v : S16x1024.Idx → EReal) (c : Fin 1024) : Radd 0 W ρ (@View.ld (Elt Ideal) S16x1024 .f32 v (Rect.unit ![0, 0] ![1, 1024] inb_S16x1024_S1x1024_0_0)) (ix2 0 c) = T13 W ρ v (ix2 0 c) := by
  pointwise [Radd_at, T13_at]

theorem RaddV_1 (v : S16x1024.Idx → EReal) (c : Fin 1024) : Radd 1 W ρ (@View.ld (Elt Ideal) S16x1024 .f32 v (Rect.unit ![1, 0] ![1, 1024] inb_S16x1024_S1x1024_1_0)) (ix2 0 c) = T13 W ρ v (ix2 1 c) := by
  pointwise [Radd_at, T13_at]

theorem RaddV_2 (v : S16x1024.Idx → EReal) (c : Fin 1024) : Radd 2 W ρ (@View.ld (Elt Ideal) S16x1024 .f32 v (Rect.unit ![2, 0] ![1, 1024] inb_S16x1024_S1x1024_2_0)) (ix2 0 c) = T13 W ρ v (ix2 2 c) := by
  pointwise [Radd_at, T13_at]

theorem RaddV_3 (v : S16x1024.Idx → EReal) (c : Fin 1024) : Radd 3 W ρ (@View.ld (Elt Ideal) S16x1024 .f32 v (Rect.unit ![3, 0] ![1, 1024] inb_S16x1024_S1x1024_3_0)) (ix2 0 c) = T13 W ρ v (ix2 3 c) := by
  pointwise [Radd_at, T13_at]

theorem RaddV_4 (v : S16x1024.Idx → EReal) (c : Fin 1024) : Radd 4 W ρ (@View.ld (Elt Ideal) S16x1024 .f32 v (Rect.unit ![4, 0] ![1, 1024] inb_S16x1024_S1x1024_4_0)) (ix2 0 c) = T13 W ρ v (ix2 4 c) := by
  pointwise [Radd_at, T13_at]

theorem RaddV_5 (v : S16x1024.Idx → EReal) (c : Fin 1024) : Radd 5 W ρ (@View.ld (Elt Ideal) S16x1024 .f32 v (Rect.unit ![5, 0] ![1, 1024] inb_S16x1024_S1x1024_5_0)) (ix2 0 c) = T13 W ρ v (ix2 5 c) := by
  pointwise [Radd_at, T13_at]

theorem RaddV_6 (v : S16x1024.Idx → EReal) (c : Fin 1024) : Radd 6 W ρ (@View.ld (Elt Ideal) S16x1024 .f32 v (Rect.unit ![6, 0] ![1, 1024] inb_S16x1024_S1x1024_6_0)) (ix2 0 c) = T13 W ρ v (ix2 6 c) := by
  pointwise [Radd_at, T13_at]

theorem RaddV_7 (v : S16x1024.Idx → EReal) (c : Fin 1024) : Radd 7 W ρ (@View.ld (Elt Ideal) S16x1024 .f32 v (Rect.unit ![7, 0] ![1, 1024] inb_S16x1024_S1x1024_7_0)) (ix2 0 c) = T13 W ρ v (ix2 7 c) := by
  pointwise [Radd_at, T13_at]

theorem RaddV_8 (v : S16x1024.Idx → EReal) (c : Fin 1024) : Radd 8 W ρ (@View.ld (Elt Ideal) S16x1024 .f32 v (Rect.unit ![8, 0] ![1, 1024] inb_S16x1024_S1x1024_8_0)) (ix2 0 c) = T13 W ρ v (ix2 8 c) := by
  pointwise [Radd_at, T13_at]

theorem can13 (V : View sig .tc .vmem S16x1024 .f32) : View.canon (s := S16x1024) (e := .f32) (Val := Elt Ideal) [⟨Rect.unit ![7, 0] ![1, 1024] inb_S16x1024_S1x1024_7_0, Radd 7 W ρ (@View.ld (Elt Ideal) S16x1024 .f32 (k0_pay3 (F := Ideal)) (Rect.unit ![7, 0] ![1, 1024] inb_S16x1024_S1x1024_7_0))⟩, ⟨Rect.unit ![6, 0] ![1, 1024] inb_S16x1024_S1x1024_6_0, Radd 6 W ρ (@View.ld (Elt Ideal) S16x1024 .f32 (k0_pay3 (F := Ideal)) (Rect.unit ![6, 0] ![1, 1024] inb_S16x1024_S1x1024_6_0))⟩, ⟨Rect.unit ![5, 0] ![1, 1024] inb_S16x1024_S1x1024_5_0, Radd 5 W ρ (@View.ld (Elt Ideal) S16x1024 .f32 (k0_pay3 (F := Ideal)) (Rect.unit ![5, 0] ![1, 1024] inb_S16x1024_S1x1024_5_0))⟩, ⟨Rect.unit ![4, 0] ![1, 1024] inb_S16x1024_S1x1024_4_0, Radd 4 W ρ (@View.ld (Elt Ideal) S16x1024 .f32 (k0_pay3 (F := Ideal)) (Rect.unit ![4, 0] ![1, 1024] inb_S16x1024_S1x1024_4_0))⟩, ⟨Rect.unit ![3, 0] ![1, 1024] inb_S16x1024_S1x1024_3_0, Radd 3 W ρ (@View.ld (Elt Ideal) S16x1024 .f32 (k0_pay3 (F := Ideal)) (Rect.unit ![3, 0] ![1, 1024] inb_S16x1024_S1x1024_3_0))⟩, ⟨Rect.unit ![8, 0] ![1, 1024] inb_S16x1024_S1x1024_8_0, Radd 8 W ρ (@View.ld (Elt Ideal) S16x1024 .f32 (k0_pay3 (F := Ideal)) (Rect.unit ![8, 0] ![1, 1024] inb_S16x1024_S1x1024_8_0))⟩, ⟨Rect.unit ![2, 0] ![1, 1024] inb_S16x1024_S1x1024_2_0, Radd 2 W ρ (@View.ld (Elt Ideal) S16x1024 .f32 (k0_pay3 (F := Ideal)) (Rect.unit ![2, 0] ![1, 1024] inb_S16x1024_S1x1024_2_0))⟩, ⟨Rect.unit ![1, 0] ![1, 1024] inb_S16x1024_S1x1024_1_0, Radd 1 W ρ (@View.ld (Elt Ideal) S16x1024 .f32 (k0_pay3 (F := Ideal)) (Rect.unit ![1, 0] ![1, 1024] inb_S16x1024_S1x1024_1_0))⟩, ⟨Rect.unit ![0, 0] ![1, 1024] inb_S16x1024_S1x1024_0_0, Radd 0 W ρ (@View.ld (Elt Ideal) S16x1024 .f32 (k0_pay3 (F := Ideal)) (Rect.unit ![0, 0] ![1, 1024] inb_S16x1024_S1x1024_0_0))⟩, ⟨Rect.unit ![0, 0] ![16, 1024] inb_S16x1024_S16x1024_0_0, k0_pay3 (F := Ideal)⟩] = T13 W ρ (fun _ => 0) := by
  refine (View.read_writes_junk_eq_canon V _).symm.trans ?_
  funext y
  rw [← pay3]
  obtain ⟨k, c, rfl⟩ : ∃ (k : Fin 16) (c : Fin 1024), y = ix2 k c := by
    idx_vars y
    exact ⟨y0, y1, rfl⟩
  refine rows13 V _ ![Radd 0 W ρ (@View.ld (Elt Ideal) S16x1024 .f32 (k0_pay3 (F := Ideal)) (Rect.unit ![0, 0] ![1, 1024] inb_S16x1024_S1x1024_0_0)), Radd 1 W ρ (@View.ld (Elt Ideal) S16x1024 .f32 (k0_pay3 (F := Ideal)) (Rect.unit ![1, 0] ![1, 1024] inb_S16x1024_S1x1024_1_0)), Radd 2 W ρ (@View.ld (Elt Ideal) S16x1024 .f32 (k0_pay3 (F := Ideal)) (Rect.unit ![2, 0] ![1, 1024] inb_S16x1024_S1x1024_2_0)), Radd 3 W ρ (@View.ld (Elt Ideal) S16x1024 .f32 (k0_pay3 (F := Ideal)) (Rect.unit ![3, 0] ![1, 1024] inb_S16x1024_S1x1024_3_0)), Radd 4 W ρ (@View.ld (Elt Ideal) S16x1024 .f32 (k0_pay3 (F := Ideal)) (Rect.unit ![4, 0] ![1, 1024] inb_S16x1024_S1x1024_4_0)), Radd 5 W ρ (@View.ld (Elt Ideal) S16x1024 .f32 (k0_pay3 (F := Ideal)) (Rect.unit ![5, 0] ![1, 1024] inb_S16x1024_S1x1024_5_0)), Radd 6 W ρ (@View.ld (Elt Ideal) S16x1024 .f32 (k0_pay3 (F := Ideal)) (Rect.unit ![6, 0] ![1, 1024] inb_S16x1024_S1x1024_6_0)), Radd 7 W ρ (@View.ld (Elt Ideal) S16x1024 .f32 (k0_pay3 (F := Ideal)) (Rect.unit ![7, 0] ![1, 1024] inb_S16x1024_S1x1024_7_0)), Radd 8 W ρ (@View.ld (Elt Ideal) S16x1024 .f32 (k0_pay3 (F := Ideal)) (Rect.unit ![8, 0] ![1, 1024] inb_S16x1024_S1x1024_8_0))] _ (T13 W ρ (k0_pay3 (F := Ideal))) k c ?_ fun hk => ?_
  · skip
    intro j
    fin_cases j
    · exact RaddV_0 W ρ (k0_pay3 (F := Ideal)) c
    · exact RaddV_1 W ρ (k0_pay3 (F := Ideal)) c
    · exact RaddV_2 W ρ (k0_pay3 (F := Ideal)) c
    · exact RaddV_3 W ρ (k0_pay3 (F := Ideal)) c
    · exact RaddV_4 W ρ (k0_pay3 (F := Ideal)) c
    · exact RaddV_5 W ρ (k0_pay3 (F := Ideal)) c
    · exact RaddV_6 W ρ (k0_pay3 (F := Ideal)) c
    · exact RaddV_7 W ρ (k0_pay3 (F := Ideal)) c
    · exact RaddV_8 W ρ (k0_pay3 (F := Ideal)) c
  · rw [whole13, T13_at, sum_far W ρ k c hk, add_zero]

theorem wr13 (M : Memref sig .tc .vmem S16x1024 .f32) (hM : M.IsWhole) (v : S16x1024.Idx → EReal) : View.read (Elt Ideal) M.view (M.view.writes (Elt Ideal) (hM.unread v)
      [⟨Rect.unit ![7, 0] ![1, 1024] inb_S16x1024_S1x1024_7_0, Radd 7 W ρ (@View.ld (Elt Ideal) S16x1024 .f32 v (Rect.unit ![7, 0] ![1, 1024] inb_S16x1024_S1x1024_7_0))⟩, ⟨Rect.unit ![6, 0] ![1, 1024] inb_S16x1024_S1x1024_6_0, Radd 6 W ρ (@View.ld (Elt Ideal) S16x1024 .f32 v (Rect.unit ![6, 0] ![1, 1024] inb_S16x1024_S1x1024_6_0))⟩, ⟨Rect.unit ![5, 0] ![1, 1024] inb_S16x1024_S1x1024_5_0, Radd 5 W ρ (@View.ld (Elt Ideal) S16x1024 .f32 v (Rect.unit ![5, 0] ![1, 1024] inb_S16x1024_S1x1024_5_0))⟩, ⟨Rect.unit ![4, 0] ![1, 1024] inb_S16x1024_S1x1024_4_0, Radd 4 W ρ (@View.ld (Elt Ideal) S16x1024 .f32 v (Rect.unit ![4, 0] ![1, 1024] inb_S16x1024_S1x1024_4_0))⟩, ⟨Rect.unit ![3, 0] ![1, 1024] inb_S16x1024_S1x1024_3_0, Radd 3 W ρ (@View.ld (Elt Ideal) S16x1024 .f32 v (Rect.unit ![3, 0] ![1, 1024] inb_S16x1024_S1x1024_3_0))⟩, ⟨Rect.unit ![8, 0] ![1, 1024] inb_S16x1024_S1x1024_8_0, Radd 8 W ρ (@View.ld (Elt Ideal) S16x1024 .f32 v (Rect.unit ![8, 0] ![1, 1024] inb_S16x1024_S1x1024_8_0))⟩, ⟨Rect.unit ![2, 0] ![1, 1024] inb_S16x1024_S1x1024_2_0, Radd 2 W ρ (@View.ld (Elt Ideal) S16x1024 .f32 v (Rect.unit ![2, 0] ![1, 1024] inb_S16x1024_S1x1024_2_0))⟩, ⟨Rect.unit ![1, 0] ![1, 1024] inb_S16x1024_S1x1024_1_0, Radd 1 W ρ (@View.ld (Elt Ideal) S16x1024 .f32 v (Rect.unit ![1, 0] ![1, 1024] inb_S16x1024_S1x1024_1_0))⟩, ⟨Rect.unit ![0, 0] ![1, 1024] inb_S16x1024_S1x1024_0_0, Radd 0 W ρ (@View.ld (Elt Ideal) S16x1024 .f32 v (Rect.unit ![0, 0] ![1, 1024] inb_S16x1024_S1x1024_0_0))⟩]) = T13 W ρ v := by
  funext y
  obtain ⟨k, c, rfl⟩ : ∃ (k : Fin 16) (c : Fin 1024), y = ix2 k c := by
    idx_vars y
    exact ⟨y0, y1, rfl⟩
  refine rows13 M.view _ ![Radd 0 W ρ (@View.ld (Elt Ideal) S16x1024 .f32 v (Rect.unit ![0, 0] ![1, 1024] inb_S16x1024_S1x1024_0_0)), Radd 1 W ρ (@View.ld (Elt Ideal) S16x1024 .f32 v (Rect.unit ![1, 0] ![1, 1024] inb_S16x1024_S1x1024_1_0)), Radd 2 W ρ (@View.ld (Elt Ideal) S16x1024 .f32 v (Rect.unit ![2, 0] ![1, 1024] inb_S16x1024_S1x1024_2_0)), Radd 3 W ρ (@View.ld (Elt Ideal) S16x1024 .f32 v (Rect.unit ![3, 0] ![1, 1024] inb_S16x1024_S1x1024_3_0)), Radd 4 W ρ (@View.ld (Elt Ideal) S16x1024 .f32 v (Rect.unit ![4, 0] ![1, 1024] inb_S16x1024_S1x1024_4_0)), Radd 5 W ρ (@View.ld (Elt Ideal) S16x1024 .f32 v (Rect.unit ![5, 0] ![1, 1024] inb_S16x1024_S1x1024_5_0)), Radd 6 W ρ (@View.ld (Elt Ideal) S16x1024 .f32 v (Rect.unit ![6, 0] ![1, 1024] inb_S16x1024_S1x1024_6_0)), Radd 7 W ρ (@View.ld (Elt Ideal) S16x1024 .f32 v (Rect.unit ![7, 0] ![1, 1024] inb_S16x1024_S1x1024_7_0)), Radd 8 W ρ (@View.ld (Elt Ideal) S16x1024 .f32 v (Rect.unit ![8, 0] ![1, 1024] inb_S16x1024_S1x1024_8_0))] _ (T13 W ρ v) k c ?_ fun hk => ?_
  · skip
    intro j
    fin_cases j
    · exact RaddV_0 W ρ v c
    · exact RaddV_1 W ρ v c
    · exact RaddV_2 W ρ v c
    · exact RaddV_3 W ρ v c
    · exact RaddV_4 W ρ v c
    · exact RaddV_5 W ρ v c
    · exact RaddV_6 W ρ v c
    · exact RaddV_7 W ρ v c
    · exact RaddV_8 W ρ v c
  · refine (congrFun (hM.read_unread (Val := Elt Ideal) v) _).trans ?_
    rw [T13_at, sum_far W ρ k c hk, add_zero]

end Cert.KernelIdeal.Val

end

end
-- ==== Proof.KerOut.lean ====
module

public import proofs.«01_k».proof.Proof.KerCan
public import Idealize.ShloMosaic.Lib.Pipeline.ReadBack

/-! What a point leaves in each output window and each carried scratch, as tiles of the results. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

variable {m : (ℓ : Loc nD τ sig) → Buf (Elt Ideal) ℓ} {c : Dev nD} (t : Fin cfg0.N) {A : Inp} (h : Args m c A)
include h

theorem oA6 (h0 : t.val % 16 = 0) : out0_A_6 m c t h0 = T6 A.W (tk A t) := by
  unfold out0_A_6 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can6 A.W (tk A t))

theorem oB6 (h0 : ¬ t.val % 16 = 0) (xo) : out0_B_6 m c t h0 xo (Z0 A.W) (Z1 A.W) (WO A.W) = T6 A.W (tk A t) := by
  unfold out0_B_6 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can6 A.W (tk A t))

theorem oA7 (h0 : t.val % 16 = 0) : out0_A_7 m c t h0 = T7 A.W (tk A t) := by
  unfold out0_A_7 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can7 A.W (tk A t))

theorem oB7 (h0 : ¬ t.val % 16 = 0) (xo) : out0_B_7 m c t h0 xo (Z0 A.W) (Z1 A.W) (WO A.W) = T7 A.W (tk A t) := by
  unfold out0_B_7 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can7 A.W (tk A t))

theorem oA8 (h0 : t.val % 16 = 0) : out0_A_8 m c t h0 = Tum A.W (tk A t) := by
  unfold out0_A_8 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oB8 (h0 : ¬ t.val % 16 = 0) (xo) : out0_B_8 m c t h0 xo (Z0 A.W) (Z1 A.W) (WO A.W) = Tum A.W (tk A t) := by
  unfold out0_B_8 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oA9 (h0 : t.val % 16 = 0) : out0_A_9 m c t h0 = Tdh A.W (tk A t) := by
  unfold out0_A_9 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oB9 (h0 : ¬ t.val % 16 = 0) (xo) : out0_B_9 m c t h0 xo (Z0 A.W) (Z1 A.W) (WO A.W) = Tdh A.W (tk A t) := by
  unfold out0_B_9 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oA10 (h0 : t.val % 16 = 0) : out0_A_10 m c t h0 = Tdmix A.W (tk A t) := by
  unfold out0_A_10 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oB10 (h0 : ¬ t.val % 16 = 0) (xo) : out0_B_10 m c t h0 xo (Z0 A.W) (Z1 A.W) (WO A.W) = Tdmix A.W (tk A t) := by
  unfold out0_B_10 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oA11 (h0 : t.val % 16 = 0) : out0_A_11 m c t h0 = Tdcat A.W (tk A t) := by
  unfold out0_A_11 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oB11 (h0 : ¬ t.val % 16 = 0) (xo) : out0_B_11 m c t h0 xo (Z0 A.W) (Z1 A.W) (WO A.W) = Tdcat A.W (tk A t) := by
  unfold out0_B_11 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oA12 (h0 : t.val % 16 = 0) : out0_A_12 m c t h0 = Tdr1 A.W (tk A t) := by
  unfold out0_A_12 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oB12 (h0 : ¬ t.val % 16 = 0) (xo) : out0_B_12 m c t h0 xo (Z0 A.W) (Z1 A.W) (WO A.W) = Tdr1 A.W (tk A t) := by
  unfold out0_B_12 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]

theorem oA13 (h0 : t.val % 16 = 0) : out0_A_13 m c t h0 = T13 A.W (tk A t) (fun _ => 0) := by
  unfold out0_A_13 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  simp (disch := decide) only [View.readCov_skip, View.readCov_fill]
  exact can13 A.W (tk A t) (ms0_13 t).view

theorem oB13 (h0 : ¬ t.val % 16 = 0) (xo) : out0_B_13 m c t h0 xo (Z0 A.W) (Z1 A.W) (WO A.W) = T13 A.W (tk A t) xo := by
  unfold out0_B_13 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact wr13 A.W (tk A t) _ _ xo

theorem oA14 (h0 : t.val % 16 = 0) : out0_A_14 m c t h0 = T14 A.W (tk A t) := by
  unfold out0_A_14 runA
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldA0_0 h, ldA0_1 h, ldA0_2 h, ldA0_3 h, ldA1_0 h, ldA1_1 h, ldA1_2 h, ldA1_3 h, ldA2 h]
  skip
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can14 A.W (tk A t))

theorem oB14 (h0 : ¬ t.val % 16 = 0) (xo) : out0_B_14 m c t h0 xo (Z0 A.W) (Z1 A.W) (WO A.W) = T14 A.W (tk A t) := by
  unfold out0_B_14 runB
  frame_out
  simp only [alpha, ib0 t h, ib1 t h, ib2 t h, ib3 t h, ld5_0 t h, ld5_1 t h, ld5_2 t h, ld5_3 t h, ld5_4 t h, ld5_5 t h, ld5_6 t h, ld5_7 t h, ld4_0 t h, ld4_1 t h, ld4_2 t h, ld4_3 t h, ldB0_0, ldB0_1, ldB0_2, ldB0_3, ldB1_0, ldB1_1, ldB1_2, ldB1_3]
  try simp only [read_unread_whole]
  try simp only [pay1, pay2, pay4, pay5, pay6, pay7, pay8 A.W (tk A t), pay9, pay10, pay11, pay12, pay13, pay14, pay15, pay16, pay17, pay18, pay19, pay20, pay21, pay22, pay23, pay24, pay25, pay26, pay27, pay28, pay29, pay30, pay32, pay33, pay34, pay35, pay36, pay37, pay38, pay39, pay40, pay41 A.W (tk A t), pay42, pay43, pay44, pay45, pay46, pay47, pay48, pay49 A.W (tk A t), pay50, pay51, pay52, pay53, pay54, pay55, pay56, pay57, pay58, pay59, pay60, pay61, pay62, pay63, pay64, pay65, pay66, pay67, pay68, pay69, pay70, pay71, ldH_0, ldH_1, ldH_2, ldH_3]
  exact funext (can14 A.W (tk A t))

theorem sA0 (h0 : t.val % 16 = 0) : sout0_A_0 m c t h0 = Z0 A.W := by
  unfold sout0_A_0 runA
  frame_out
  rw [V32 h, V28 h]
  funext y
  exact can0 A y

theorem sA1 (h0 : t.val % 16 = 0) : sout0_A_1 m c t h0 = Z1 A.W := by
  unfold sout0_A_1 runA
  frame_out
  rw [V34 h]
  funext y
  exact can1 A y

theorem sA2 (h0 : t.val % 16 = 0) : sout0_A_2 m c t h0 = WO A.W := by
  unfold sout0_A_2 runA
  frame_out
  rw [V35 h]
  funext y
  exact can2 A y

end Cert.KernelIdeal.Val

end

end
-- ==== Proof.KerAt.lean ====
module

public import proofs.«01_k».proof.Proof.KerOut
public import proofs.«01_k».proof.Proof.Frame

/-! What the buffers hold after each point, and the result arrays after the last one. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

variable {m : (ℓ : Loc nD τ sig) → Buf (Elt Ideal) ℓ} {c : Dev nD} (t : Fin cfg0.N) {A : Inp} (h : Args m c A)

/-- The carried weights are the weights, at every point. -/
theorem scr (h : Args m c A) : ∀ (n : ℕ) (hn : n < cfg0.N), (outsAt0 m c n hn).2.2.2.2.2.2.2.2.2.1 = Z0 A.W
    ∧ (outsAt0 m c n hn).2.2.2.2.2.2.2.2.2.2.1 = Z1 A.W ∧ (outsAt0 m c n hn).2.2.2.2.2.2.2.2.2.2.2 = WO A.W := by
  intro n
  induction n with
  | zero =>
    intro hn
    rw [outsAt0_A m c ⟨0, hn⟩ (Nat.zero_mod _)]
    dsimp only [outsA]
    exact ⟨sA0 ⟨0, hn⟩ h _, sA1 ⟨0, hn⟩ h _, sA2 ⟨0, hn⟩ h _⟩
  | succ n ih =>
    intro hn
    have h0 : ¬ (n + 1) % 16 = 0 := by have := Nat.lt_of_lt_of_eq hn N_0; omega
    rw [outsAt0_B m c ⟨n + 1, hn⟩ h0]
    dsimp only [outsB]
    exact ih (Nat.lt_of_succ_lt hn)

theorem at6 (h : Args m c A) : (outsAt0 m c t.val t.isLt).1 = T6 A.W (tk A t) := by
  by_cases h0 : t.val % 16 = 0
  · rw [outsAt0_A m c t h0]
    dsimp only [outsA]
    exact oA6 t h h0
  · rw [outsAt0_B m c t h0]
    dsimp only [outsB]
    obtain ⟨e0, e1, e2⟩ := scr h (t.val - 1) (Nat.lt_of_le_of_lt (Nat.sub_le _ _) t.isLt)
    rw [e0, e1, e2]
    exact oB6 t h h0 _

theorem at7 (h : Args m c A) : (outsAt0 m c t.val t.isLt).2.1 = T7 A.W (tk A t) := by
  by_cases h0 : t.val % 16 = 0
  · rw [outsAt0_A m c t h0]
    dsimp only [outsA]
    exact oA7 t h h0
  · rw [outsAt0_B m c t h0]
    dsimp only [outsB]
    obtain ⟨e0, e1, e2⟩ := scr h (t.val - 1) (Nat.lt_of_le_of_lt (Nat.sub_le _ _) t.isLt)
    rw [e0, e1, e2]
    exact oB7 t h h0 _

theorem at8 (h : Args m c A) : (outsAt0 m c t.val t.isLt).2.2.1 = Tum A.W (tk A t) := by
  by_cases h0 : t.val % 16 = 0
  · rw [outsAt0_A m c t h0]
    dsimp only [outsA]
    exact oA8 t h h0
  · rw [outsAt0_B m c t h0]
    dsimp only [outsB]
    obtain ⟨e0, e1, e2⟩ := scr h (t.val - 1) (Nat.lt_of_le_of_lt (Nat.sub_le _ _) t.isLt)
    rw [e0, e1, e2]
    exact oB8 t h h0 _

theorem at9 (h : Args m c A) : (outsAt0 m c t.val t.isLt).2.2.2.1 = Tdh A.W (tk A t) := by
  by_cases h0 : t.val % 16 = 0
  · rw [outsAt0_A m c t h0]
    dsimp only [outsA]
    exact oA9 t h h0
  · rw [outsAt0_B m c t h0]
    dsimp only [outsB]
    obtain ⟨e0, e1, e2⟩ := scr h (t.val - 1) (Nat.lt_of_le_of_lt (Nat.sub_le _ _) t.isLt)
    rw [e0, e1, e2]
    exact oB9 t h h0 _

theorem at10 (h : Args m c A) : (outsAt0 m c t.val t.isLt).2.2.2.2.1 = Tdmix A.W (tk A t) := by
  by_cases h0 : t.val % 16 = 0
  · rw [outsAt0_A m c t h0]
    dsimp only [outsA]
    exact oA10 t h h0
  · rw [outsAt0_B m c t h0]
    dsimp only [outsB]
    obtain ⟨e0, e1, e2⟩ := scr h (t.val - 1) (Nat.lt_of_le_of_lt (Nat.sub_le _ _) t.isLt)
    rw [e0, e1, e2]
    exact oB10 t h h0 _

theorem at11 (h : Args m c A) : (outsAt0 m c t.val t.isLt).2.2.2.2.2.1 = Tdcat A.W (tk A t) := by
  by_cases h0 : t.val % 16 = 0
  · rw [outsAt0_A m c t h0]
    dsimp only [outsA]
    exact oA11 t h h0
  · rw [outsAt0_B m c t h0]
    dsimp only [outsB]
    obtain ⟨e0, e1, e2⟩ := scr h (t.val - 1) (Nat.lt_of_le_of_lt (Nat.sub_le _ _) t.isLt)
    rw [e0, e1, e2]
    exact oB11 t h h0 _

theorem at12 (h : Args m c A) : (outsAt0 m c t.val t.isLt).2.2.2.2.2.2.1 = Tdr1 A.W (tk A t) := by
  by_cases h0 : t.val % 16 = 0
  · rw [outsAt0_A m c t h0]
    dsimp only [outsA]
    exact oA12 t h h0
  · rw [outsAt0_B m c t h0]
    dsimp only [outsB]
    obtain ⟨e0, e1, e2⟩ := scr h (t.val - 1) (Nat.lt_of_le_of_lt (Nat.sub_le _ _) t.isLt)
    rw [e0, e1, e2]
    exact oB12 t h h0 _

theorem at14 (h : Args m c A) : (outsAt0 m c t.val t.isLt).2.2.2.2.2.2.2.2.1 = T14 A.W (tk A t) := by
  by_cases h0 : t.val % 16 = 0
  · rw [outsAt0_A m c t h0]
    dsimp only [outsA]
    exact oA14 t h h0
  · rw [outsAt0_B m c t h0]
    dsimp only [outsB]
    obtain ⟨e0, e1, e2⟩ := scr h (t.val - 1) (Nat.lt_of_le_of_lt (Nat.sub_le _ _) t.isLt)
    rw [e0, e1, e2]
    exact oB14 t h h0 _

/-- A point's sums over its tokens; nothing past the last point. -/
def P13 (A : Inp) (s : ℕ) (k : Fin 16) (j : Fin 1024) : ℝ :=
  if hs : s < 16 then ∑ r : Fin 256, part A.W (tok A ⟨s * 256 + r.val, by omega⟩) k j else 0

theorem P13_tk (s : Fin cfg0.N) (k : Fin 16) (j : Fin 1024) : P13 A s.val k j = ∑ r, part A.W (tk A s r) k j :=
  dif_pos (tN s)

theorem at13 (h : Args m c A) : ∀ (n : ℕ) (hn : n < cfg0.N), (outsAt0 m c n hn).2.2.2.2.2.2.2.1
    = fun i : S16x1024.Idx => ((∑ s ∈ Finset.range (n + 1), P13 A s (i 0) (i 1) : ℝ) : EReal) := by
  intro n
  induction n with
  | zero =>
    intro hn
    rw [outsAt0_A m c ⟨0, hn⟩ (Nat.zero_mod _)]
    dsimp only [outsA]
    refine (oA13 ⟨0, hn⟩ h (Nat.zero_mod _)).trans ?_
    funext i
    rw [Finset.sum_range_one]
    show (0 : EReal) + _ = _
    rw [zero_add]
    exact congrArg (fun x : ℝ => (x : EReal)) (P13_tk ⟨0, hn⟩ (i 0) (i 1)).symm
  | succ n ih =>
    intro hn
    have h0 : ¬ (n + 1) % 16 = 0 := by have := Nat.lt_of_lt_of_eq hn N_0; omega
    rw [outsAt0_B m c ⟨n + 1, hn⟩ h0]
    dsimp only [outsB]
    obtain ⟨e0, e1, e2⟩ := scr h n (Nat.lt_of_succ_lt hn)
    simp only [Nat.add_sub_cancel]
    rw [e0, e1, e2, ih]
    refine (oB13 ⟨n + 1, hn⟩ h h0 _).trans ?_
    funext i
    rw [Finset.sum_range_succ _ (n + 1), EReal.coe_add]
    exact congrArg₂ (· + ·) rfl (congrArg (fun x : ℝ => (x : EReal)) (P13_tk ⟨n + 1, hn⟩ (i 0) (i 1)).symm)

/-- After the last point the sums are over all the tokens. -/
theorem sum13 (k : Fin 16) (j : Fin 1024) : ∑ s ∈ Finset.range 16, P13 A s k j = ∑ r, part A.W (tok A r) k j := by
  rw [Finset.sum_range]
  refine (Finset.sum_congr rfl fun s _ => (dif_pos s.isLt : P13 A s.val k j = _)).trans ?_
  refine Fin.sum_mul_add_congr fun s r hl => ?_
  rfl

theorem lt256 (t : Fin cfg0.N) (r : Fin 256) : t.val * 256 + r.val < 4096 := by have := tN t; omega

theorem arr6 (h : Args m c A) : (dats m 0 c).arrAt 6 cfg0.N = Y6 A := by
  refine (dats m 0 c).arrAt_eq_of_covers 6 _ (by decide +kernel) fun t _ y => ?_
  blk_simp
  rw [after0_6, at6 t h]
  show Y6 A (ix2 (⟨t.val * 256 + (y 0 : Fin 256).val, lt256 t _⟩ : Fin 4096) (y 1 : Fin 4096) : S4096x4096.Idx) = _
  refine congrArg (Y6 A) ?_
  blk_ext [idx t]

theorem arr7 (h : Args m c A) : (dats m 0 c).arrAt 7 cfg0.N = Y7 A := by
  refine (dats m 0 c).arrAt_eq_of_covers 7 _ (by decide +kernel) fun t _ y => ?_
  blk_simp
  rw [after0_7, at7 t h]
  show Y7 A (ix2 (⟨t.val * 256 + (y 0 : Fin 256).val, lt256 t _⟩ : Fin 4096) (y 1 : Fin 4096) : S4096x4096.Idx) = _
  refine congrArg (Y7 A) ?_
  blk_ext [idx t]

theorem arr8 (h : Args m c A) : (dats m 0 c).arrAt 8 cfg0.N = Y8 A := by
  refine (dats m 0 c).arrAt_eq_of_covers 8 _ (by decide +kernel) fun t _ y => ?_
  blk_simp
  rw [after0_8, at8 t h]
  show Y8 A (ix2 (⟨t.val * 256 + (y 0 : Fin 256).val, lt256 t _⟩ : Fin 4096) (y 1 : Fin 1024) : S4096x1024.Idx) = _
  refine congrArg (Y8 A) ?_
  blk_ext [idx t]

theorem arr9 (h : Args m c A) : (dats m 0 c).arrAt 9 cfg0.N = Y9 A := by
  refine (dats m 0 c).arrAt_eq_of_covers 9 _ (by decide +kernel) fun t _ y => ?_
  blk_simp
  rw [after0_9, at9 t h]
  show Y9 A (ix2 (⟨t.val * 256 + (y 0 : Fin 256).val, lt256 t _⟩ : Fin 4096) (y 1 : Fin 1024) : S4096x1024.Idx) = _
  refine congrArg (Y9 A) ?_
  blk_ext [idx t]

theorem arr10 (h : Args m c A) : (dats m 0 c).arrAt 10 cfg0.N = Y10 A := by
  refine (dats m 0 c).arrAt_eq_of_covers 10 _ (by decide +kernel) fun t _ y => ?_
  blk_simp
  rw [after0_10, at10 t h]
  show Y10 A (ix2 (⟨t.val * 256 + (y 0 : Fin 256).val, lt256 t _⟩ : Fin 4096) (y 1 : Fin 1024) : S4096x1024.Idx) = _
  refine congrArg (Y10 A) ?_
  blk_ext [idx t]

theorem arr11 (h : Args m c A) : (dats m 0 c).arrAt 11 cfg0.N = Y11 A := by
  refine (dats m 0 c).arrAt_eq_of_covers 11 _ (by decide +kernel) fun t _ y => ?_
  blk_simp
  rw [after0_11, at11 t h]
  show Y11 A (ix2 (⟨t.val * 256 + (y 0 : Fin 256).val, lt256 t _⟩ : Fin 4096) (y 1 : Fin 1024) : S4096x1024.Idx) = _
  refine congrArg (Y11 A) ?_
  blk_ext [idx t]

theorem arr12 (h : Args m c A) : (dats m 0 c).arrAt 12 cfg0.N = Y12 A := by
  refine (dats m 0 c).arrAt_eq_of_covers 12 _ (by decide +kernel) fun t _ y => ?_
  blk_simp
  rw [after0_12, at12 t h]
  show Y12 A (ix2 (⟨t.val * 256 + (y 0 : Fin 256).val, lt256 t _⟩ : Fin 4096) (y 1 : Fin 1024) : S4096x1024.Idx) = _
  refine congrArg (Y12 A) ?_
  blk_ext [idx t]

theorem arr14 (h : Args m c A) : (dats m 0 c).arrAt 14 cfg0.N = Y14 A := by
  refine (dats m 0 c).arrAt_eq_of_covers 14 _ (by decide +kernel) fun t _ y => ?_
  blk_simp
  rw [after0_14, at14 t h]
  show Y14 A (ix3 (y 0 : Fin 4) (y 1 : Fin 1) (⟨t.val * 256 + (y 2 : Fin 256).val, lt256 t _⟩ : Fin 4096) : S4x1x4096.Idx) = _
  refine congrArg (Y14 A) ?_
  blk_ext [idx t]

theorem arr13 (h : Args m c A) : (dats m 0 c).arrAt 13 cfg0.N = Y13 A := by
  refine (dats m 0 c).arrAt_eq_of_covers 13 _ (by decide +kernel) fun t hf y => ?_
  blk_simp
  rw [after0_13, at13 h]
  have ht : t.val = 15 := by have := tN t; have := (flush0_13 t).mp hf; omega
  rw [ht]
  refine (congrArg (fun x : ℝ => (x : EReal)) (sum13 (A := A) (y 0 : Fin 16) (y 1 : Fin 1024))).trans ?_
  show Y13 A (ix2 (y 0 : Fin 16) (y 1 : Fin 1024) : S16x1024.Idx) = _
  refine congrArg (Y13 A) ?_
  blk_ext [idx t]

end Cert.KernelIdeal.Val

end

end
-- ==== Proof.Fin.lean ====
module

public import proofs.«01_k».proof.Proof.KerIn
public import proofs.«01_k».proof.Defs

/-! Arguments that are finite numbers are the reals of some input. -/

@[expose] public section

set_option maxRecDepth 16384

noncomputable section

namespace Cert.KernelIdeal.Val

open Idealize.ShloMosaic Idealize.ShloMosaic.TcCoe Idealize.SL.Sem Cert.KernelIdeal Cert.KernelIdeal.Gen Cert.Spec

theorem bits_top : Ideal.ofBits .f32 0x7F800000#32 = (⊤ : EReal) := by
  simp [Ideal.ofBits, Ideal.ieee]

/-- An array below infinity in absolute value holds reals. -/
theorem real_of {a b : ℕ} (X : FVec Ideal (⟨2, ![a, b]⟩ : Shape) .f32) (hb : (⟨0, ![]⟩ : Shape).BroadcastsInDim (⟨2, ![a, b]⟩ : Shape) (![] : Fin 0 → Fin 2))
    (h : cmpf .olt (Host.absf X) (broadcastInDim (⟨2, ![a, b]⟩ : Shape) ![] hb (constant (⟨0, ![]⟩ : Shape) .f32 0x7F800000#32)) = fun _ => 1#1) (i : Fin a) (j : Fin b) :
    X (ix2 i j) = (((X (ix2 i j)).toReal : ℝ) : EReal) := by
  have e := congrFun h (ix2 i j)
  pointwise at e
  rw [bits_top] at e
  replace e : BitVec.ofBool (decide (max (X (ix2 i j)) (-(X (ix2 i j))) < (⊤ : EReal))) = 1#1 := e
  have hlt : max (X (ix2 i j)) (-(X (ix2 i j))) < (⊤ : EReal) := by
    by_contra hn
    rw [decide_eq_false hn] at e
    exact absurd e (by decide)
  refine (EReal.coe_toReal ?_ ?_).symm
  · exact (lt_of_le_of_lt (le_max_left _ _) hlt).ne
  · intro hx
    have h2 := lt_of_le_of_lt (le_max_right _ _) hlt
    rw [hx] at h2
    exact absurd h2 (by simp)

variable (m : (ℓ : Loc nD τ sig) → Buf (Elt Ideal) ℓ) (c : Dev nD)

/-- The reals of device `c`'s arguments. -/
def inp : Inp where
  W :=
    { ga := fun j => EReal.toReal ((m (c, Proc.tc.devRef main_arg4) : S1x1024.Idx → EReal) (ix2 0 j))
      shm := fun j => EReal.toReal ((m (c, Proc.tc.devRef main_arg5) : S1x1024.Idx → EReal) (ix2 0 j))
      scm := fun j => EReal.toReal ((m (c, Proc.tc.devRef main_arg6) : S1x1024.Idx → EReal) (ix2 0 j))
      gm := fun j => EReal.toReal ((m (c, Proc.tc.devRef main_arg7) : S1x1024.Idx → EReal) (ix2 0 j))
      g1 := fun j => EReal.toReal ((m (c, Proc.tc.devRef main_arg8) : S1x1024.Idx → EReal) (ix2 0 j))
      b1 := fun j => EReal.toReal ((m (c, Proc.tc.devRef main_arg9) : S1x1024.Idx → EReal) (ix2 0 j))
      g2 := fun j => EReal.toReal ((m (c, Proc.tc.devRef main_arg10) : S1x1024.Idx → EReal) (ix2 0 j))
      b2 := fun j => EReal.toReal ((m (c, Proc.tc.devRef main_arg11) : S1x1024.Idx → EReal) (ix2 0 j))
      wo := fun i j => EReal.toReal ((m (c, Proc.tc.devRef main_arg12) : S1024x1024.Idx → EReal) (ix2 i j))
      w1 := fun i j => EReal.toReal ((m (c, Proc.tc.devRef main_arg13) : S1024x4096.Idx → EReal) (ix2 i j))
      w2 := fun i j => EReal.toReal ((m (c, Proc.tc.devRef main_arg14) : S4096x1024.Idx → EReal) (ix2 i j)) }
  x := fun i j => EReal.toReal ((m (c, Proc.tc.devRef main_arg0) : S4096x1024.Idx → EReal) (ix2 i j))
  oh := fun i j => EReal.toReal ((m (c, Proc.tc.devRef main_arg1) : S4096x512.Idx → EReal) (ix2 i j))
  om := fun i j => EReal.toReal ((m (c, Proc.tc.devRef main_arg2) : S4096x512.Idx → EReal) (ix2 i j))
  tgt := fun i j => EReal.toReal ((m (c, Proc.tc.devRef main_arg3) : S4096x1024.Idx → EReal) (ix2 i j))

/-- Finite arguments are those reals. -/
theorem args_of_finite [Cert.Pre_finite.Facts] (h : Cert.Pre_KernelIdeal_finite m) : Args m c (inp m c) := by
  obtain ⟨h0, h1, h2, h3, h4, h5, h6, h7, h8, h9, h10, h11, h12, h13, h14⟩ := h c
  constructor
  · funext i
    idx_vars i
    exact real_of (m (c, Proc.tc.devRef main_arg0)) _ h0 i0 i1
  · funext i
    idx_vars i
    exact real_of (m (c, Proc.tc.devRef main_arg1)) _ h1 i0 i1
  · funext i
    idx_vars i
    exact real_of (m (c, Proc.tc.devRef main_arg2)) _ h2 i0 i1
  · funext i
    idx_vars i
    exact real_of (m (c, Proc.tc.devRef main_arg3)) _ h3 i0 i1
  · funext i
    idx_vars i
    obtain rfl : i0 = 0 := Subsingleton.elim _ _
    exact real_of (m (c, Proc.tc.devRef main_arg4)) _ h4 0 i1
  · funext i
    idx_vars i
    obtain rfl : i0 = 0 := Subsingleton.elim _ _
    exact real_of (m (c, Proc.tc.devRef main_arg5)) _ h5 0 i1
  · funext i
    idx_vars i
    obtain rfl : i0 = 0 := Subsingleton.elim _ _
    exact real_of (m (c, Proc.tc.devRef main_arg6)) _ h6 0 i1
  · funext i
    idx_vars i
    obtain rfl : i0 = 0 := Subsingleton.elim _ _
    exact real_of (m (c, Proc.tc.devRef main_arg7)) _ h7 0 i1
  · funext i
    idx_vars i
    obtain rfl : i0 = 0 := Subsingleton.elim _ _
    exact real_of (m (c, Proc.tc.devRef main_arg8)) _ h8 0 i1
  · funext i
    idx_vars i
    obtain rfl : i0 = 0 := Subsingleton.elim _ _
    exact real_of (m (c, Proc.tc.devRef main_arg9)) _ h9 0 i1
  · funext i
    idx_vars i
    obtain rfl : i0 = 0 := Subsingleton.elim _ _
    exact real_of (m (c, Proc.tc.devRef main_arg10)) _ h10 0 i1
  · funext i
    idx_vars i
    obtain rfl : i0 = 0 := Subsingleton.elim _ _
    exact real_of (m (c, Proc.tc.devRef main_arg11)) _ h11 0 i1
  · funext i
    idx_vars i
    exact real_of (m (c, Proc.tc.devRef main_arg12)) _ h12 i0 i1
  · funext i
    idx_vars i
    exact real_of (m (c, Proc.tc.devRef main_arg13)) _ h13 i0 i1
  · funext i
    idx_vars i
    exact real_of (m (c, Proc.tc.devRef main_arg14)) _ h14 i0 i1

end Cert.KernelIdeal.Val

end

end
-- ==== Proof.RefValue.lean ====
module

public import proofs.«01_k».proof.Proof.Gen.ReferenceIdeal.Read
public import proofs.«01_k».proof.Proof.Spec

/-! The reference, stage by stage, as the real functions of `Cert.Spec`. -/

@[expose] public section

set_option maxRecDepth 16384

noncomputable section

namespace Cert.ReferenceIdeal.Val

open Idealize.ShloMosaic Cert.ReferenceIdeal Cert.ReferenceIdeal.Gen Cert.ReferenceIdeal.Read Cert.Spec

variable (A : Inp)

theorem v0_at (r : Fin 4096) (k : Fin 1024) : (val_main_v0 (F := Ideal) (X1 A) (X2 A)) (ix2 r k) = ((cat A r k : ℝ) : EReal) := by
  pointwise [val_main_v0, X0_at, X1_at, X2_at, X3_at, X4_at, X5_at, X6_at, X7_at, X8_at, X9_at, X10_at, X11_at, X12_at, X13_at, X14_at]
  unfold cat; split <;> rfl

theorem v4_at (r : Fin 4096) (c : Fin 1024) : (val_main_v4 (F := Ideal) (X1 A) (X2 A) (X12 A)) (ix2 r c) = ((mix A r c : ℝ) : EReal) := by
  pointwise [val_main_v4, val_main_v3, val_main_v1, val_main_cst, v0_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v12_at (r : Fin 4096) (c : Fin 1024) : (val_main_v12 (F := Ideal) (X0 A) (X1 A) (X2 A) (X4 A) (X12 A)) (ix2 r c) = ((r1 A r c : ℝ) : EReal) := by
  pointwise [val_main_v12, val_main_v11, val_main_v10, val_main_v9, val_main_v8, val_main_v7, val_main_v6, val_main_v5, val_main_cst_1, val_main_cst_2, val_main_v1, val_main_cst, v4_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v18_at (r : Fin 4096) (c : Fin 1024) : (val_main_v18 (F := Ideal) (X0 A) (X1 A) (X2 A) (X4 A) (X12 A)) (ix2 r c) = ((xc1 A r c : ℝ) : EReal) := by
  pointwise [val_main_v18, val_main_v17, val_main_v16, val_main_v15, val_main_v14, val_main_v13, val_main_cst_3, val_main_cst_4, v12_at]
  simp only [bits_A, bits_E, bits_N, bits_2, bits_H, bits_M, zero_add, r_zero, r_one, r_add, r_mul, r_sub, r_neg, r_max, r_divN, r_sum]
  rfl

theorem v25_at (r : Fin 4096) (o : Fin 1) : (val_main_v25 (F := Ideal) (X0 A) (X1 A) (X2 A) (X4 A) (X12 A)) (ix2 r o) = ((var (xc1 A r) : ℝ) : EReal) := by
  pointwise [val_main_v25, val_main_v24, val_main_v23, val_main_v22, val_main_v21, val_main_v20, val_main_v19, val_main_cst_5, val_main_cst_6, val_main_cst_7, v18_at]
  simp only [bits_A, bits_E, bits_N, bits_2, bits_H, bits_M, zero_add, r_zero, r_one, r_add, r_mul, r_sub, r_neg, r_max, r_divN, r_sum]
  rfl

theorem v26_at (r : Fin 4096) (o : Fin 1) : (val_main_v26 (F := Ideal) (X0 A) (X1 A) (X2 A) (X4 A) (X12 A)) (ix2 r o) = ((rs1 A r : ℝ) : EReal) := by
  pointwise [val_main_v26, v25_at]
  rw [r_rsqrt (var_pos _)]; rfl

theorem v29_at (r : Fin 4096) (o : Fin 1) : (val_main_v29 (F := Ideal) (X0 A) (X1 A) (X2 A) (X4 A) (X12 A)) (ix2 r o) = ((cM * (rs1 A r / var (xc1 A r)) : ℝ) : EReal) := by
  pointwise [val_main_v29, val_main_v28, val_main_v27, val_main_cst_8, v26_at, v25_at]
  simp only [bits_A, bits_E, bits_N, bits_2, bits_H, bits_M, zero_add, r_zero, r_one, r_add, r_mul, r_sub, r_neg, r_max, r_divN, r_sum]
  simp only [r_div (var_pos _).ne', r_mul]

theorem v31_at (r : Fin 4096) (c : Fin 1024) : (val_main_v31 (F := Ideal) (X0 A) (X1 A) (X2 A) (X4 A) (X12 A)) (ix2 r c) = (((tok A r).xh c : ℝ) : EReal) := by
  pointwise [val_main_v31, val_main_v30, v18_at, v26_at]
  simp only [bits_A, bits_E, bits_N, bits_2, bits_H, bits_M, zero_add, r_zero, r_one, r_add, r_mul, r_sub, r_neg, r_max, r_divN, r_sum]
  rfl

theorem v35_at (r : Fin 4096) (c : Fin 1024) : (val_main_v35 (F := Ideal) (X0 A) (X1 A) (X2 A) (X4 A) (X8 A) (X9 A) (X12 A)) (ix2 r c) = ((x1 A.W (tok A r) c : ℝ) : EReal) := by
  pointwise [val_main_v35, val_main_v34, val_main_v33, val_main_v32, v31_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v41_at (r : Fin 4096) (c : Fin 1024) : (val_main_v41 (F := Ideal) (X0 A) (X1 A) (X2 A) (X4 A) (X5 A) (X6 A) (X8 A) (X9 A) (X12 A)) (ix2 r c) = ((um A.W (tok A r) c : ℝ) : EReal) := by
  pointwise [val_main_v41, val_main_v40, val_main_v39, val_main_v38, val_main_v37, val_main_v36, val_main_cst_9, v35_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v43_at (r : Fin 4096) (f : Fin 4096) : (val_main_v43 (F := Ideal) (X0 A) (X1 A) (X2 A) (X4 A) (X5 A) (X6 A) (X8 A) (X9 A) (X12 A) (X13 A)) (ix2 r f) = ((hp A.W (tok A r) f : ℝ) : EReal) := by
  pointwise [val_main_v43, val_main_v42, val_main_v2, val_main_cst_0, v41_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v44_at (r : Fin 4096) (f : Fin 4096) : (val_main_v44 (F := Ideal) (X0 A) (X1 A) (X2 A) (X4 A) (X5 A) (X6 A) (X8 A) (X9 A) (X12 A) (X13 A)) (ix2 r f) = ((max (hp A.W (tok A r) f) 0 : ℝ) : EReal) := by
  pointwise [val_main_v44, val_main_call0_v0, val_main_call0_cst, v43_at]
  simp only [bits_A, bits_E, bits_N, bits_2, bits_H, bits_M, zero_add, r_zero, r_one, r_add, r_mul, r_sub, r_neg, r_max, r_divN, r_sum]

theorem v48_at (r : Fin 4096) (f : Fin 4096) : (val_main_v48 (F := Ideal) (X0 A) (X1 A) (X2 A) (X4 A) (X5 A) (X6 A) (X8 A) (X9 A) (X12 A) (X13 A)) (ix2 r f) = ((act A.W (tok A r) f : ℝ) : EReal) := by
  pointwise [val_main_v48, v44_at]
  simp only [bits_A, bits_E, bits_N, bits_2, bits_H, bits_M, zero_add, r_zero, r_one, r_add, r_mul, r_sub, r_neg, r_max, r_divN, r_sum]
  rfl

theorem v50_at (r : Fin 4096) (f : Fin 4096) : (val_main_v50 (F := Ideal) (X0 A) (X1 A) (X2 A) (X4 A) (X5 A) (X6 A) (X8 A) (X9 A) (X12 A) (X13 A)) (ix2 r f) = ((c2 * max (hp A.W (tok A r) f) 0 : ℝ) : EReal) := by
  pointwise [val_main_v50, val_main_v49, val_main_cst_12, v44_at]
  simp only [bits_A, bits_E, bits_N, bits_2, bits_H, bits_M, zero_add, r_zero, r_one, r_add, r_mul, r_sub, r_neg, r_max, r_divN, r_sum]

theorem v52_at (r : Fin 4096) (c : Fin 1024) : (val_main_v52 (F := Ideal) (X0 A) (X1 A) (X2 A) (X4 A) (X5 A) (X6 A) (X8 A) (X9 A) (X12 A) (X13 A) (X14 A)) (ix2 r c) = ((hh A.W (tok A r) c : ℝ) : EReal) := by
  pointwise [val_main_v52, val_main_v51, val_main_v1, val_main_cst, v48_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v59_at (r : Fin 4096) (c : Fin 1024) : (val_main_v59 (F := Ideal) (X0 A) (X1 A) (X2 A) (X4 A) (X5 A) (X6 A) (X7 A) (X8 A) (X9 A) (X12 A) (X13 A) (X14 A)) (ix2 r c) = ((r2 A.W (tok A r) c : ℝ) : EReal) := by
  pointwise [val_main_v59, val_main_v58, val_main_v57, val_main_v56, val_main_v55, val_main_cst_14, val_main_v54, val_main_v53, val_main_cst_13, v52_at, v35_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v65_at (r : Fin 4096) (c : Fin 1024) : (val_main_v65 (F := Ideal) (X0 A) (X1 A) (X2 A) (X4 A) (X5 A) (X6 A) (X7 A) (X8 A) (X9 A) (X12 A) (X13 A) (X14 A)) (ix2 r c) = ((xc2 A.W (tok A r) c : ℝ) : EReal) := by
  pointwise [val_main_v65, val_main_v64, val_main_v63, val_main_v62, val_main_v61, val_main_v60, val_main_cst_15, val_main_cst_16, v59_at]
  simp only [bits_A, bits_E, bits_N, bits_2, bits_H, bits_M, zero_add, r_zero, r_one, r_add, r_mul, r_sub, r_neg, r_max, r_divN, r_sum]
  rfl

theorem v72_at (r : Fin 4096) (o : Fin 1) : (val_main_v72 (F := Ideal) (X0 A) (X1 A) (X2 A) (X4 A) (X5 A) (X6 A) (X7 A) (X8 A) (X9 A) (X12 A) (X13 A) (X14 A)) (ix2 r o) = ((var (xc2 A.W (tok A r)) : ℝ) : EReal) := by
  pointwise [val_main_v72, val_main_v71, val_main_v70, val_main_v69, val_main_v68, val_main_v67, val_main_v66, val_main_cst_17, val_main_cst_18, val_main_cst_19, v65_at]
  simp only [bits_A, bits_E, bits_N, bits_2, bits_H, bits_M, zero_add, r_zero, r_one, r_add, r_mul, r_sub, r_neg, r_max, r_divN, r_sum]
  rfl

theorem v73_at (r : Fin 4096) (o : Fin 1) : (val_main_v73 (F := Ideal) (X0 A) (X1 A) (X2 A) (X4 A) (X5 A) (X6 A) (X7 A) (X8 A) (X9 A) (X12 A) (X13 A) (X14 A)) (ix2 r o) = ((rs2 A.W (tok A r) : ℝ) : EReal) := by
  pointwise [val_main_v73, v72_at]
  rw [r_rsqrt (var_pos _)]; rfl

theorem v76_at (r : Fin 4096) (o : Fin 1) : (val_main_v76 (F := Ideal) (X0 A) (X1 A) (X2 A) (X4 A) (X5 A) (X6 A) (X7 A) (X8 A) (X9 A) (X12 A) (X13 A) (X14 A)) (ix2 r o) = ((cM * (rs2 A.W (tok A r) / var (xc2 A.W (tok A r))) : ℝ) : EReal) := by
  pointwise [val_main_v76, val_main_v75, val_main_v74, val_main_cst_20, v73_at, v72_at]
  simp only [bits_A, bits_E, bits_N, bits_2, bits_H, bits_M, zero_add, r_zero, r_one, r_add, r_mul, r_sub, r_neg, r_max, r_divN, r_sum]
  simp only [r_div (var_pos _).ne', r_mul]

theorem v78_at (r : Fin 4096) (c : Fin 1024) : (val_main_v78 (F := Ideal) (X0 A) (X1 A) (X2 A) (X4 A) (X5 A) (X6 A) (X7 A) (X8 A) (X9 A) (X12 A) (X13 A) (X14 A)) (ix2 r c) = ((xh2 A.W (tok A r) c : ℝ) : EReal) := by
  pointwise [val_main_v78, val_main_v77, v65_at, v73_at]
  simp only [bits_A, bits_E, bits_N, bits_2, bits_H, bits_M, zero_add, r_zero, r_one, r_add, r_mul, r_sub, r_neg, r_max, r_divN, r_sum]
  rfl

theorem v83_at (r : Fin 4096) (c : Fin 1024) : (val_main_v83 (F := Ideal) (X0 A) (X1 A) (X2 A) (X3 A) (X4 A) (X5 A) (X6 A) (X7 A) (X8 A) (X9 A) (X10 A) (X11 A) (X12 A) (X13 A) (X14 A)) (ix2 r c) = ((err A.W (tok A r) c : ℝ) : EReal) := by
  pointwise [val_main_v83, val_main_v82, val_main_v81, val_main_v80, val_main_v79, v78_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v97_at (r : Fin 4096) (c : Fin 1024) : (val_main_v97 (F := Ideal) (X0 A) (X1 A) (X2 A) (X3 A) (X4 A) (X5 A) (X6 A) (X7 A) (X8 A) (X9 A) (X10 A) (X11 A) (X12 A) (X13 A) (X14 A)) (ix2 r c) = ((dy A.W (tok A r) c : ℝ) : EReal) := by
  pointwise [val_main_v97, val_main_v96, val_main_v95, val_main_v94, val_main_v93, val_main_v92, val_main_v86, val_main_v85, val_main_cst_21, val_main_cst_26, val_main_cst_27, val_main_cst_28, v83_at]
  simp only [bits_A, bits_E, bits_N, bits_2, bits_H, bits_M, zero_add, r_zero, r_one, r_add, r_mul, r_sub, r_neg, r_max, r_divN, r_sum]
  congr 1; unfold dy cI cH c2 cN; ring

theorem v104_at (r : Fin 4096) (c : Fin 1024) : (val_main_v104 (F := Ideal) (X0 A) (X1 A) (X2 A) (X3 A) (X4 A) (X5 A) (X6 A) (X7 A) (X8 A) (X9 A) (X10 A) (X11 A) (X12 A) (X13 A) (X14 A)) (ix2 r c) = ((dxh2 A.W (tok A r) c : ℝ) : EReal) := by
  pointwise [val_main_v104, val_main_v103, v97_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v107_at (r : Fin 4096) (o : Fin 1) : (val_main_v107 (F := Ideal) (X0 A) (X1 A) (X2 A) (X3 A) (X4 A) (X5 A) (X6 A) (X7 A) (X8 A) (X9 A) (X10 A) (X11 A) (X12 A) (X13 A) (X14 A)) (ix2 r o) = ((∑ k, xc2 A.W (tok A r) k * dxh2 A.W (tok A r) k : ℝ) : EReal) := by
  pointwise [val_main_v107, val_main_v106, val_main_v105, val_main_cst_31, v65_at, v104_at]
  simp only [bits_A, bits_E, bits_N, bits_2, bits_H, bits_M, zero_add, r_zero, r_one, r_add, r_mul, r_sub, r_neg, r_max, r_divN, r_sum]

theorem v112_at (r : Fin 4096) (o : Fin 1) : (val_main_v112 (F := Ideal) (X0 A) (X1 A) (X2 A) (X3 A) (X4 A) (X5 A) (X6 A) (X7 A) (X8 A) (X9 A) (X10 A) (X11 A) (X12 A) (X13 A) (X14 A)) (ix2 r o) = (((∑ k, xc2 A.W (tok A r) k * dxh2 A.W (tok A r) k) * (cM * (rs2 A.W (tok A r) / var (xc2 A.W (tok A r)))) / cN : ℝ) : EReal) := by
  pointwise [val_main_v112, val_main_v111, val_main_v110, val_main_cst_32, v107_at, v76_at]
  simp only [bits_A, bits_E, bits_N, bits_2, bits_H, bits_M, zero_add, r_zero, r_one, r_add, r_mul, r_sub, r_neg, r_max, r_divN, r_sum]

theorem v118_at (r : Fin 4096) (c : Fin 1024) : (val_main_v118 (F := Ideal) (X0 A) (X1 A) (X2 A) (X3 A) (X4 A) (X5 A) (X6 A) (X7 A) (X8 A) (X9 A) (X10 A) (X11 A) (X12 A) (X13 A) (X14 A)) (ix2 r c) = ((dxh2 A.W (tok A r) c * rs2 A.W (tok A r) + xc2 A.W (tok A r) c * ((∑ k, xc2 A.W (tok A r) k * dxh2 A.W (tok A r) k) * (cM * (rs2 A.W (tok A r) / var (xc2 A.W (tok A r)))) / cN) + ((∑ k, xc2 A.W (tok A r) k * dxh2 A.W (tok A r) k) * (cM * (rs2 A.W (tok A r) / var (xc2 A.W (tok A r)))) / cN) * xc2 A.W (tok A r) c : ℝ) : EReal) := by
  pointwise [val_main_v118, val_main_v117, val_main_v116, val_main_v115, val_main_v114, val_main_v113, val_main_cst_33, val_main_v109, val_main_v108, v104_at, v73_at, v65_at, v112_at]
  simp only [bits_A, bits_E, bits_N, bits_2, bits_H, bits_M, zero_add, r_zero, r_one, r_add, r_mul, r_sub, r_neg, r_max, r_divN, r_sum]
  simp only [Finset.univ_unique, Finset.sum_singleton, zero_add]

theorem v126_at (r : Fin 4096) (c : Fin 1024) : (val_main_v126 (F := Ideal) (X0 A) (X1 A) (X2 A) (X3 A) (X4 A) (X5 A) (X6 A) (X7 A) (X8 A) (X9 A) (X10 A) (X11 A) (X12 A) (X13 A) (X14 A)) (ix2 r c) = ((dr2 A.W (tok A r) c : ℝ) : EReal) := by
  pointwise [val_main_v126, val_main_v125, val_main_v124, val_main_v123, val_main_v122, val_main_v121, val_main_v120, val_main_v119, val_main_cst_34, val_main_cst_35, val_main_cst_36, v118_at]
  simp only [bits_A, bits_E, bits_N, bits_2, bits_H, bits_M, zero_add, r_zero, r_one, r_add, r_mul, r_sub, r_neg, r_max, r_divN, r_sum]
  simp only [Finset.univ_unique, Finset.sum_singleton, zero_add]
  exact congrArg _ (lnBack_rules (r2 A.W (tok A r)) (dxh2 A.W (tok A r)) c)

theorem v128_at (r : Fin 4096) (c : Fin 1024) : (val_main_v128 (F := Ideal) (X0 A) (X1 A) (X2 A) (X3 A) (X4 A) (X5 A) (X6 A) (X7 A) (X8 A) (X9 A) (X10 A) (X11 A) (X12 A) (X13 A) (X14 A)) (ix2 r c) = ((dh A.W (tok A r) c : ℝ) : EReal) := by
  pointwise [val_main_v128, val_main_v127, val_main_v56, val_main_v55, val_main_cst_14, v126_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v137_at (r : Fin 4096) (f : Fin 4096) : (val_main_v137 (F := Ideal) (X0 A) (X1 A) (X2 A) (X3 A) (X4 A) (X5 A) (X6 A) (X7 A) (X8 A) (X9 A) (X10 A) (X11 A) (X12 A) (X13 A) (X14 A)) (ix2 r f) = ((dhp A.W (tok A r) f : ℝ) : EReal) := by
  pointwise [val_main_v137, val_main_v136, val_main_v135, val_main_v134, val_main_v46, val_main_v45, val_main_cst_10, val_main_cst_39, v128_at, v43_at, v50_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  by_cases hz : (0 : ℝ) < hp A.W (tok A r) f
  · rw [if_pos (EReal.coe_lt_coe_iff.mpr hz)]; rfl
  · rw [if_neg (fun h => hz (EReal.coe_lt_coe_iff.mp h))]
    unfold dhp
    rw [max_eq_right (not_lt.mp hz), mul_zero, mul_zero]

theorem v138_at (r : Fin 4096) (c : Fin 1024) : (val_main_v138 (F := Ideal) (X0 A) (X1 A) (X2 A) (X3 A) (X4 A) (X5 A) (X6 A) (X7 A) (X8 A) (X9 A) (X10 A) (X11 A) (X12 A) (X13 A) (X14 A)) (ix2 r c) = ((du A.W (tok A r) c : ℝ) : EReal) := by
  pointwise [val_main_v138, v137_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v146_at (r : Fin 4096) (c : Fin 1024) : (val_main_v146 (F := Ideal) (X0 A) (X1 A) (X2 A) (X3 A) (X4 A) (X5 A) (X6 A) (X7 A) (X8 A) (X9 A) (X10 A) (X11 A) (X12 A) (X13 A) (X14 A)) (ix2 r c) = ((dx1 A.W (tok A r) c : ℝ) : EReal) := by
  pointwise [val_main_v146, val_main_v145, val_main_v144, val_main_v133, val_main_v132, val_main_cst_38, val_main_v37, val_main_v36, val_main_cst_9, v126_at, v138_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v153_at (r : Fin 4096) (c : Fin 1024) : (val_main_v153 (F := Ideal) (X0 A) (X1 A) (X2 A) (X3 A) (X4 A) (X5 A) (X6 A) (X7 A) (X8 A) (X9 A) (X10 A) (X11 A) (X12 A) (X13 A) (X14 A)) (ix2 r c) = ((dxh1 A.W (tok A r) c : ℝ) : EReal) := by
  pointwise [val_main_v153, val_main_v152, v146_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v156_at (r : Fin 4096) (o : Fin 1) : (val_main_v156 (F := Ideal) (X0 A) (X1 A) (X2 A) (X3 A) (X4 A) (X5 A) (X6 A) (X7 A) (X8 A) (X9 A) (X10 A) (X11 A) (X12 A) (X13 A) (X14 A)) (ix2 r o) = ((∑ k, xc1 A r k * dxh1 A.W (tok A r) k : ℝ) : EReal) := by
  pointwise [val_main_v156, val_main_v155, val_main_v154, val_main_cst_44, v18_at, v153_at]
  simp only [bits_A, bits_E, bits_N, bits_2, bits_H, bits_M, zero_add, r_zero, r_one, r_add, r_mul, r_sub, r_neg, r_max, r_divN, r_sum]

theorem v161_at (r : Fin 4096) (o : Fin 1) : (val_main_v161 (F := Ideal) (X0 A) (X1 A) (X2 A) (X3 A) (X4 A) (X5 A) (X6 A) (X7 A) (X8 A) (X9 A) (X10 A) (X11 A) (X12 A) (X13 A) (X14 A)) (ix2 r o) = ((((∑ k, xc1 A r k * dxh1 A.W (tok A r) k) * (cM * (rs1 A r / var (xc1 A r))) / cN) : ℝ) : EReal) := by
  pointwise [val_main_v161, val_main_v160, val_main_v159, val_main_cst_45, v156_at, v29_at]
  simp only [bits_A, bits_E, bits_N, bits_2, bits_H, bits_M, zero_add, r_zero, r_one, r_add, r_mul, r_sub, r_neg, r_max, r_divN, r_sum]

theorem v167_at (r : Fin 4096) (c : Fin 1024) : (val_main_v167 (F := Ideal) (X0 A) (X1 A) (X2 A) (X3 A) (X4 A) (X5 A) (X6 A) (X7 A) (X8 A) (X9 A) (X10 A) (X11 A) (X12 A) (X13 A) (X14 A)) (ix2 r c) = ((dxh1 A.W (tok A r) c * rs1 A r + xc1 A r c * ((∑ k, xc1 A r k * dxh1 A.W (tok A r) k) * (cM * (rs1 A r / var (xc1 A r))) / cN) + ((∑ k, xc1 A r k * dxh1 A.W (tok A r) k) * (cM * (rs1 A r / var (xc1 A r))) / cN) * xc1 A r c : ℝ) : EReal) := by
  pointwise [val_main_v167, val_main_v166, val_main_v165, val_main_v164, val_main_v163, val_main_v162, val_main_cst_46, val_main_v158, val_main_v157, v153_at, v26_at, v18_at, v161_at]
  simp only [bits_A, bits_E, bits_N, bits_2, bits_H, bits_M, zero_add, r_zero, r_one, r_add, r_mul, r_sub, r_neg, r_max, r_divN, r_sum]
  simp only [Finset.univ_unique, Finset.sum_singleton, zero_add]

theorem v175_at (r : Fin 4096) (c : Fin 1024) : (val_main_v175 (F := Ideal) (X0 A) (X1 A) (X2 A) (X3 A) (X4 A) (X5 A) (X6 A) (X7 A) (X8 A) (X9 A) (X10 A) (X11 A) (X12 A) (X13 A) (X14 A)) (ix2 r c) = ((dr1 A.W (tok A r) c : ℝ) : EReal) := by
  pointwise [val_main_v175, val_main_v174, val_main_v173, val_main_v172, val_main_v171, val_main_v170, val_main_v169, val_main_v168, val_main_cst_47, val_main_cst_48, val_main_cst_49, v167_at]
  simp only [bits_A, bits_E, bits_N, bits_2, bits_H, bits_M, zero_add, r_zero, r_one, r_add, r_mul, r_sub, r_neg, r_max, r_divN, r_sum]
  simp only [Finset.univ_unique, Finset.sum_singleton, zero_add]
  exact congrArg _ (lnBack_rules (r1 A r) (dxh1 A.W (tok A r)) c)

theorem v177_at (r : Fin 4096) (c : Fin 1024) : (val_main_v177 (F := Ideal) (X0 A) (X1 A) (X2 A) (X3 A) (X4 A) (X5 A) (X6 A) (X7 A) (X8 A) (X9 A) (X10 A) (X11 A) (X12 A) (X13 A) (X14 A)) (ix2 r c) = ((dmix A.W (tok A r) c : ℝ) : EReal) := by
  pointwise [val_main_v177, val_main_v176, val_main_v8, val_main_v7, val_main_cst_2, v175_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v181_at (r : Fin 4096) (c : Fin 1024) : (val_main_v181 (F := Ideal) (X0 A) (X1 A) (X2 A) (X3 A) (X4 A) (X5 A) (X6 A) (X7 A) (X8 A) (X9 A) (X10 A) (X11 A) (X12 A) (X13 A) (X14 A)) (ix2 r c) = ((dcat A.W (tok A r) c : ℝ) : EReal) := by
  pointwise [val_main_v181, v177_at, X0_at, X1_at, X2_at, X3_at, X4_at, X5_at, X6_at, X7_at, X8_at, X9_at, X10_at, X11_at, X12_at, X13_at, X14_at]
  simp only [bits_A, bits_E, bits_N, bits_2, bits_H, bits_M, zero_add, r_zero, r_one, r_add, r_mul, r_sub, r_neg, r_max, r_divN, r_sum]
  rfl

theorem v99_at (o : Fin 1) (c : Fin 1024) : (val_main_v99 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 1 c : ℝ) : EReal) := by
  pointwise [val_main_v99, val_main_v98, val_main_cst_29, v97_at]
  simp only [bits_A, bits_E, bits_N, bits_2, bits_H, bits_M, zero_add, r_zero, r_one, r_add, r_mul, r_sub, r_neg, r_max, r_divN, r_sum]
  rfl

theorem v102_at (o : Fin 1) (c : Fin 1024) : (val_main_v102 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 0 c : ℝ) : EReal) := by
  pointwise [val_main_v102, val_main_v101, val_main_v100, val_main_cst_30, v97_at, v78_at]
  simp only [bits_A, bits_E, bits_N, bits_2, bits_H, bits_M, zero_add, r_zero, r_one, r_add, r_mul, r_sub, r_neg, r_max, r_divN, r_sum]
  exact congrArg _ (Finset.sum_congr rfl fun r _ => mul_comm _ _)

theorem v131_at (o : Fin 1) (c : Fin 1024) : (val_main_v131 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 2 c : ℝ) : EReal) := by
  pointwise [val_main_v131, val_main_v130, val_main_v129, val_main_cst_37, v126_at, v52_at]
  simp only [bits_A, bits_E, bits_N, bits_2, bits_H, bits_M, zero_add, r_zero, r_one, r_add, r_mul, r_sub, r_neg, r_max, r_divN, r_sum]
  rfl

theorem v143_at (o : Fin 1) (c : Fin 1024) : (val_main_v143 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 3 c : ℝ) : EReal) := by
  pointwise [val_main_v143, val_main_v142, val_main_v141, val_main_cst_41, v35_at, v138_at]
  simp only [bits_A, bits_E, bits_N, bits_2, bits_H, bits_M, zero_add, r_zero, r_one, r_add, r_mul, r_sub, r_neg, r_max, r_divN, r_sum]
  exact congrArg _ (Finset.sum_congr rfl fun r _ => mul_comm _ _)

theorem v140_at (o : Fin 1) (c : Fin 1024) : (val_main_v140 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 4 c : ℝ) : EReal) := by
  pointwise [val_main_v140, val_main_v139, val_main_cst_40, v138_at]
  simp only [bits_A, bits_E, bits_N, bits_2, bits_H, bits_M, zero_add, r_zero, r_one, r_add, r_mul, r_sub, r_neg, r_max, r_divN, r_sum]
  rfl

theorem v151_at (o : Fin 1) (c : Fin 1024) : (val_main_v151 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 5 c : ℝ) : EReal) := by
  pointwise [val_main_v151, val_main_v150, val_main_v149, val_main_cst_43, v31_at, v146_at]
  simp only [bits_A, bits_E, bits_N, bits_2, bits_H, bits_M, zero_add, r_zero, r_one, r_add, r_mul, r_sub, r_neg, r_max, r_divN, r_sum]
  exact congrArg _ (Finset.sum_congr rfl fun r _ => mul_comm _ _)

theorem v148_at (o : Fin 1) (c : Fin 1024) : (val_main_v148 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 6 c : ℝ) : EReal) := by
  pointwise [val_main_v148, val_main_v147, val_main_cst_42, v146_at]
  simp only [bits_A, bits_E, bits_N, bits_2, bits_H, bits_M, zero_add, r_zero, r_one, r_add, r_mul, r_sub, r_neg, r_max, r_divN, r_sum]
  rfl

theorem v180_at (o : Fin 1) (c : Fin 1024) : (val_main_v180 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 7 c : ℝ) : EReal) := by
  pointwise [val_main_v180, val_main_v179, val_main_v178, val_main_cst_50, v175_at, v4_at]
  simp only [bits_A, bits_E, bits_N, bits_2, bits_H, bits_M, zero_add, r_zero, r_one, r_add, r_mul, r_sub, r_neg, r_max, r_divN, r_sum]
  rfl

theorem v182_at (o : Fin 1) (c : Fin 1024) : (val_main_v182 (F := Ideal) (X0 A) (X1 A) (X2 A) (X3 A) (X4 A) (X5 A) (X6 A) (X7 A) (X8 A) (X9 A) (X10 A) (X11 A) (X12 A) (X13 A) (X14 A)) (ix2 o c) = ((∑ r, part A.W (tok A r) 8 c : ℝ) : EReal) := by
  pointwise [val_main_v182, val_main_v91, val_main_v90, val_main_v89, val_main_v88, val_main_v87, val_main_v84, val_main_cst_22, val_main_cst_23, val_main_cst_24, val_main_cst_25, v83_at]
  simp only [bits_A, bits_E, bits_N, bits_2, bits_H, bits_M, zero_add, r_zero, r_one, r_add, r_mul, r_sub, r_neg, r_max, r_divN, r_sum]
  exact congrArg _ (Finset.mul_sum _ _ _)

theorem v184_at (k : Fin 16) (c : Fin 1024) : (val_main_v184 (F := Ideal) (X0 A) (X1 A) (X2 A) (X3 A) (X4 A) (X5 A) (X6 A) (X7 A) (X8 A) (X9 A) (X10 A) (X11 A) (X12 A) (X13 A) (X14 A)) (ix2 k c) = ((∑ r, part A.W (tok A r) k c : ℝ) : EReal) := by
  pointwise [val_main_v184, val_main_v183, val_main_cst_51, v99_at, v102_at, v131_at, v143_at, v140_at, v151_at, v148_at, v180_at, v182_at]
  have e : ∀ j : Fin 16, k.val = j.val → ∑ r, part A.W (tok A r) j c = ∑ r, part A.W (tok A r) k c :=
    fun j h => by rw [Fin.ext h]
  fin_vals k with hk
  all_goals simp only [hk, Nat.reduceSub, Nat.reduceLT, Nat.lt_irrefl, dite_true, dite_false, ↓reduceDIte]
  all_goals first
    | exact congrArg _ (e 0 hk)
    | exact congrArg _ (e 1 hk)
    | exact congrArg _ (e 2 hk)
    | exact congrArg _ (e 3 hk)
    | exact congrArg _ (e 4 hk)
    | exact congrArg _ (e 5 hk)
    | exact congrArg _ (e 6 hk)
    | exact congrArg _ (e 7 hk)
    | exact congrArg _ (e 8 hk)
    | (simp [part, hk]; done)

theorem v191_at (h : Fin 4) (o : Fin 1) (r : Fin 4096) : (val_main_v191 (F := Ideal) (X0 A) (X1 A) (X2 A) (X3 A) (X4 A) (X5 A) (X6 A) (X7 A) (X8 A) (X9 A) (X10 A) (X11 A) (X12 A) (X13 A) (X14 A)) (ix3 h o r) = ((delta A.W (tok A r) h : ℝ) : EReal) := by
  pointwise [val_main_v191, val_main_v190, val_main_v189, val_main_v188, val_main_v187, val_main_v186, val_main_v185, val_main_cst_52, v181_at, X2_at]
  simp only [bits_A, bits_E, bits_N, bits_2, bits_H, bits_M, zero_add, r_zero, r_one, r_add, r_mul, r_sub, r_neg, r_max, r_divN, r_sum]
  rfl

theorem result_v192 : (val_main_v192 (F := Ideal) (X0 A) (X1 A) (X2 A) (X4 A) (X5 A) (X6 A) (X8 A) (X9 A) (X12 A) (X13 A)) = Y6 A := by
  funext i
  idx_vars i
  pointwise [val_main_v192]
  exact v48_at A _ _

theorem result_v193 : (val_main_v193 (F := Ideal) (X0 A) (X1 A) (X2 A) (X3 A) (X4 A) (X5 A) (X6 A) (X7 A) (X8 A) (X9 A) (X10 A) (X11 A) (X12 A) (X13 A) (X14 A)) = Y7 A := by
  funext i
  idx_vars i
  pointwise [val_main_v193]
  exact v137_at A _ _

theorem result_v194 : (val_main_v194 (F := Ideal) (X0 A) (X1 A) (X2 A) (X4 A) (X5 A) (X6 A) (X8 A) (X9 A) (X12 A)) = Y8 A := by
  funext i
  idx_vars i
  pointwise [val_main_v194]
  exact v41_at A _ _

theorem result_v195 : (val_main_v195 (F := Ideal) (X0 A) (X1 A) (X2 A) (X3 A) (X4 A) (X5 A) (X6 A) (X7 A) (X8 A) (X9 A) (X10 A) (X11 A) (X12 A) (X13 A) (X14 A)) = Y9 A := by
  funext i
  idx_vars i
  pointwise [val_main_v195]
  exact v128_at A _ _

theorem result_v196 : (val_main_v196 (F := Ideal) (X0 A) (X1 A) (X2 A) (X3 A) (X4 A) (X5 A) (X6 A) (X7 A) (X8 A) (X9 A) (X10 A) (X11 A) (X12 A) (X13 A) (X14 A)) = Y10 A := by
  funext i
  idx_vars i
  pointwise [val_main_v196]
  exact v177_at A _ _

theorem result_v181 : (val_main_v181 (F := Ideal) (X0 A) (X1 A) (X2 A) (X3 A) (X4 A) (X5 A) (X6 A) (X7 A) (X8 A) (X9 A) (X10 A) (X11 A) (X12 A) (X13 A) (X14 A)) = Y11 A := by
  funext i
  idx_vars i

  exact v181_at A _ _

theorem result_v175 : (val_main_v175 (F := Ideal) (X0 A) (X1 A) (X2 A) (X3 A) (X4 A) (X5 A) (X6 A) (X7 A) (X8 A) (X9 A) (X10 A) (X11 A) (X12 A) (X13 A) (X14 A)) = Y12 A := by
  funext i
  idx_vars i

  exact v175_at A _ _

theorem result_v184 : (val_main_v184 (F := Ideal) (X0 A) (X1 A) (X2 A) (X3 A) (X4 A) (X5 A) (X6 A) (X7 A) (X8 A) (X9 A) (X10 A) (X11 A) (X12 A) (X13 A) (X14 A)) = Y13 A := by
  funext i
  idx_vars i

  exact v184_at A _ _

theorem result_v191 : (val_main_v191 (F := Ideal) (X0 A) (X1 A) (X2 A) (X3 A) (X4 A) (X5 A) (X6 A) (X7 A) (X8 A) (X9 A) (X10 A) (X11 A) (X12 A) (X13 A) (X14 A)) = Y14 A := by
  funext i
  idx_vars i

  exact v191_at A _ _ _

end Cert.ReferenceIdeal.Val

end

end
-- ==== Proof.Value.lean ====
module

public import proofs.«01_k».proof.Proof.KerAt
public import proofs.«01_k».proof.Proof.Fin
public import proofs.«01_k».proof.Proof.RefValue
public import proofs.«01_k».proof.Proof.Frames

/-! The kernel and the reference end with the same results on finite arguments. -/

@[expose] public section

set_option maxRecDepth 16384

noncomputable section

namespace Cert.Proof

open Idealize.ShloMosaic Idealize.ShloMosaic.TcCoe Idealize.SL.Sem Cert.Spec

/-- The reference's arguments are the reals of `A`. -/
structure RArgs (m : (ℓ : Loc Cert.ReferenceIdeal.nD Cert.ReferenceIdeal.τ Cert.ReferenceIdeal.sig) → Buf (Elt Ideal) ℓ) (c : Dev Cert.ReferenceIdeal.nD) (A : Inp) : Prop where
  a0 : m (c, Proc.tc.devRef Cert.ReferenceIdeal.main_arg0) = X0 A
  a1 : m (c, Proc.tc.devRef Cert.ReferenceIdeal.main_arg1) = X1 A
  a2 : m (c, Proc.tc.devRef Cert.ReferenceIdeal.main_arg2) = X2 A
  a3 : m (c, Proc.tc.devRef Cert.ReferenceIdeal.main_arg3) = X3 A
  a4 : m (c, Proc.tc.devRef Cert.ReferenceIdeal.main_arg4) = X4 A
  a5 : m (c, Proc.tc.devRef Cert.ReferenceIdeal.main_arg5) = X5 A
  a6 : m (c, Proc.tc.devRef Cert.ReferenceIdeal.main_arg6) = X6 A
  a7 : m (c, Proc.tc.devRef Cert.ReferenceIdeal.main_arg7) = X7 A
  a8 : m (c, Proc.tc.devRef Cert.ReferenceIdeal.main_arg8) = X8 A
  a9 : m (c, Proc.tc.devRef Cert.ReferenceIdeal.main_arg9) = X9 A
  a10 : m (c, Proc.tc.devRef Cert.ReferenceIdeal.main_arg10) = X10 A
  a11 : m (c, Proc.tc.devRef Cert.ReferenceIdeal.main_arg11) = X11 A
  a12 : m (c, Proc.tc.devRef Cert.ReferenceIdeal.main_arg12) = X12 A
  a13 : m (c, Proc.tc.devRef Cert.ReferenceIdeal.main_arg13) = X13 A
  a14 : m (c, Proc.tc.devRef Cert.ReferenceIdeal.main_arg14) = X14 A

section
open Cert.ReferenceIdeal Cert.ReferenceIdeal.Gen Cert.ReferenceIdeal.Read Cert.ReferenceIdeal.Val
variable {m : (ℓ : Loc nD τ sig) → Buf (Elt Ideal) ℓ} {c : Dev nD} {A : Inp}

theorem ref6 (h : RArgs m c A) : val_main_v192 (F := Ideal) (m (c, Proc.tc.devRef main_arg0)) (m (c, Proc.tc.devRef main_arg1)) (m (c, Proc.tc.devRef main_arg2)) (m (c, Proc.tc.devRef main_arg4)) (m (c, Proc.tc.devRef main_arg5)) (m (c, Proc.tc.devRef main_arg6)) (m (c, Proc.tc.devRef main_arg8)) (m (c, Proc.tc.devRef main_arg9)) (m (c, Proc.tc.devRef main_arg12)) (m (c, Proc.tc.devRef main_arg13)) = Y6 A := by
  rw [h.a0, h.a1, h.a2, h.a4, h.a5, h.a6, h.a8, h.a9, h.a12, h.a13]
  exact result_v192 A

theorem ref7 (h : RArgs m c A) : val_main_v193 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y7 A := by
  rw [h.a0, h.a1, h.a2, h.a3, h.a4, h.a5, h.a6, h.a7, h.a8, h.a9, h.a10, h.a11, h.a12, h.a13, h.a14]
  exact result_v193 A

theorem ref8 (h : RArgs m c A) : val_main_v194 (F := Ideal) (m (c, Proc.tc.devRef main_arg0)) (m (c, Proc.tc.devRef main_arg1)) (m (c, Proc.tc.devRef main_arg2)) (m (c, Proc.tc.devRef main_arg4)) (m (c, Proc.tc.devRef main_arg5)) (m (c, Proc.tc.devRef main_arg6)) (m (c, Proc.tc.devRef main_arg8)) (m (c, Proc.tc.devRef main_arg9)) (m (c, Proc.tc.devRef main_arg12)) = Y8 A := by
  rw [h.a0, h.a1, h.a2, h.a4, h.a5, h.a6, h.a8, h.a9, h.a12]
  exact result_v194 A

theorem ref9 (h : RArgs m c A) : val_main_v195 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y9 A := by
  rw [h.a0, h.a1, h.a2, h.a3, h.a4, h.a5, h.a6, h.a7, h.a8, h.a9, h.a10, h.a11, h.a12, h.a13, h.a14]
  exact result_v195 A

theorem ref10 (h : RArgs m c A) : val_main_v196 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y10 A := by
  rw [h.a0, h.a1, h.a2, h.a3, h.a4, h.a5, h.a6, h.a7, h.a8, h.a9, h.a10, h.a11, h.a12, h.a13, h.a14]
  exact result_v196 A

theorem ref11 (h : RArgs m c A) : val_main_v181 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y11 A := by
  rw [h.a0, h.a1, h.a2, h.a3, h.a4, h.a5, h.a6, h.a7, h.a8, h.a9, h.a10, h.a11, h.a12, h.a13, h.a14]
  exact result_v181 A

theorem ref12 (h : RArgs m c A) : val_main_v175 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y12 A := by
  rw [h.a0, h.a1, h.a2, h.a3, h.a4, h.a5, h.a6, h.a7, h.a8, h.a9, h.a10, h.a11, h.a12, h.a13, h.a14]
  exact result_v175 A

theorem ref13 (h : RArgs m c A) : val_main_v184 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y13 A := by
  rw [h.a0, h.a1, h.a2, h.a3, h.a4, h.a5, h.a6, h.a7, h.a8, h.a9, h.a10, h.a11, h.a12, h.a13, h.a14]
  exact result_v184 A

theorem ref14 (h : RArgs m c A) : val_main_v191 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) = Y14 A := by
  rw [h.a0, h.a1, h.a2, h.a3, h.a4, h.a5, h.a6, h.a7, h.a8, h.a9, h.a10, h.a11, h.a12, h.a13, h.a14]
  exact result_v191 A

end

open Cert.KernelIdeal.Val in
set_option maxHeartbeats 1000000 in
/-- On finite arguments the kernel ends with the reference's results. -/
theorem algebraic [Cert.KernelIdeal.Facts] [Cert.ReferenceIdeal.Facts] [Cert.Pre_finite.Facts] : Cert.algebraic_KernelIdeal_ReferenceIdeal_pre_finite := by
  intro m g m' g' hpre hag
  refine ⟨fun c => Y6 (inp m c), fun c => Y7 (inp m c), fun c => Y8 (inp m c), fun c => Y9 (inp m c), fun c => Y10 (inp m c), fun c => Y11 (inp m c), fun c => Y12 (inp m c), fun c => Y13 (inp m c), fun c => Y14 (inp m c), ?_, ?_⟩
  · refine (θ_run _ _ _).mono (fun r h c => ?_) (θ_run_and (Cert.KernelIdeal.Gen.run_main m g) (Cert.KernelIdeal.Gen.unchanged m g))
    have A := args_of_finite m c hpre
    obtain ⟨h1, h2⟩ := h
    have h1c := (h1 c).1
    have k6 : r.2.mem ((c.tc : Thread Cert.KernelIdeal.nD Cert.KernelIdeal.τ).loc Cert.KernelIdeal.main_v37_0) = Y6 (inp m c) := (h1c 6).trans (arr6 A)
    have k7 : r.2.mem ((c.tc : Thread Cert.KernelIdeal.nD Cert.KernelIdeal.τ).loc Cert.KernelIdeal.main_v37_1) = Y7 (inp m c) := (h1c 7).trans (arr7 A)
    have k8 : r.2.mem ((c.tc : Thread Cert.KernelIdeal.nD Cert.KernelIdeal.τ).loc Cert.KernelIdeal.main_v37_2) = Y8 (inp m c) := (h1c 8).trans (arr8 A)
    have k9 : r.2.mem ((c.tc : Thread Cert.KernelIdeal.nD Cert.KernelIdeal.τ).loc Cert.KernelIdeal.main_v37_3) = Y9 (inp m c) := (h1c 9).trans (arr9 A)
    have k10 : r.2.mem ((c.tc : Thread Cert.KernelIdeal.nD Cert.KernelIdeal.τ).loc Cert.KernelIdeal.main_v37_4) = Y10 (inp m c) := (h1c 10).trans (arr10 A)
    have k11 : r.2.mem ((c.tc : Thread Cert.KernelIdeal.nD Cert.KernelIdeal.τ).loc Cert.KernelIdeal.main_v37_5) = Y11 (inp m c) := (h1c 11).trans (arr11 A)
    have k12 : r.2.mem ((c.tc : Thread Cert.KernelIdeal.nD Cert.KernelIdeal.τ).loc Cert.KernelIdeal.main_v37_6) = Y12 (inp m c) := (h1c 12).trans (arr12 A)
    have k13 : r.2.mem ((c.tc : Thread Cert.KernelIdeal.nD Cert.KernelIdeal.τ).loc Cert.KernelIdeal.main_v37_7) = Y13 (inp m c) := (h1c 13).trans (arr13 A)
    have k14 : r.2.mem ((c.tc : Thread Cert.KernelIdeal.nD Cert.KernelIdeal.τ).loc Cert.KernelIdeal.main_v37_8) = Y14 (inp m c) := (h1c 14).trans (arr14 A)
    exact ⟨k6, k7, k8, k9, k10, k11, k12, k13, k14, h2 c⟩
  · refine (θ_run _ _ _).mono (fun r h c => ?_) (Cert.ReferenceIdeal.Value.run m' g')
    have A := args_of_finite m c hpre
    obtain ⟨e0, e1, e2, e3, e4, e5, e6, e7, e8, e9, e10, e11, e12, e13, e14⟩ := hag c
    have R : RArgs m' c (inp m c) := ⟨e0.trans A.a0, e1.trans A.a1, e2.trans A.a2, e3.trans A.a3, e4.trans A.a4, e5.trans A.a5, e6.trans A.a6, e7.trans A.a7, e8.trans A.a8, e9.trans A.a9, e10.trans A.a10, e11.trans A.a11, e12.trans A.a12, e13.trans A.a13, e14.trans A.a14⟩
    obtain ⟨r6, r7, r8, r9, r10, r11, r12, r13, r14, hr⟩ := h c
    have q6 : r.2.mem ((c.tc : Thread Cert.ReferenceIdeal.nD Cert.ReferenceIdeal.τ).loc Cert.ReferenceIdeal.main_v192) = Y6 (inp m c) :=
      r6.trans ((Cert.ReferenceIdeal.Read.val_main_v192_eq (F := Ideal) (StableHlo.launchContents m' c)).trans (ref6 R))
    have q7 : r.2.mem ((c.tc : Thread Cert.ReferenceIdeal.nD Cert.ReferenceIdeal.τ).loc Cert.ReferenceIdeal.main_v193) = Y7 (inp m c) :=
      r7.trans ((Cert.ReferenceIdeal.Read.val_main_v193_eq (F := Ideal) (StableHlo.launchContents m' c)).trans (ref7 R))
    have q8 : r.2.mem ((c.tc : Thread Cert.ReferenceIdeal.nD Cert.ReferenceIdeal.τ).loc Cert.ReferenceIdeal.main_v194) = Y8 (inp m c) :=
      r8.trans ((Cert.ReferenceIdeal.Read.val_main_v194_eq (F := Ideal) (StableHlo.launchContents m' c)).trans (ref8 R))
    have q9 : r.2.mem ((c.tc : Thread Cert.ReferenceIdeal.nD Cert.ReferenceIdeal.τ).loc Cert.ReferenceIdeal.main_v195) = Y9 (inp m c) :=
      r9.trans ((Cert.ReferenceIdeal.Read.val_main_v195_eq (F := Ideal) (StableHlo.launchContents m' c)).trans (ref9 R))
    have q10 : r.2.mem ((c.tc : Thread Cert.ReferenceIdeal.nD Cert.ReferenceIdeal.τ).loc Cert.ReferenceIdeal.main_v196) = Y10 (inp m c) :=
      r10.trans ((Cert.ReferenceIdeal.Read.val_main_v196_eq (F := Ideal) (StableHlo.launchContents m' c)).trans (ref10 R))
    have q11 : r.2.mem ((c.tc : Thread Cert.ReferenceIdeal.nD Cert.ReferenceIdeal.τ).loc Cert.ReferenceIdeal.main_v181) = Y11 (inp m c) :=
      r11.trans ((Cert.ReferenceIdeal.Read.val_main_v181_eq (F := Ideal) (StableHlo.launchContents m' c)).trans (ref11 R))
    have q12 : r.2.mem ((c.tc : Thread Cert.ReferenceIdeal.nD Cert.ReferenceIdeal.τ).loc Cert.ReferenceIdeal.main_v175) = Y12 (inp m c) :=
      r12.trans ((Cert.ReferenceIdeal.Read.val_main_v175_eq (F := Ideal) (StableHlo.launchContents m' c)).trans (ref12 R))
    have q13 : r.2.mem ((c.tc : Thread Cert.ReferenceIdeal.nD Cert.ReferenceIdeal.τ).loc Cert.ReferenceIdeal.main_v184) = Y13 (inp m c) :=
      r13.trans ((Cert.ReferenceIdeal.Read.val_main_v184_eq (F := Ideal) (StableHlo.launchContents m' c)).trans (ref13 R))
    have q14 : r.2.mem ((c.tc : Thread Cert.ReferenceIdeal.nD Cert.ReferenceIdeal.τ).loc Cert.ReferenceIdeal.main_v191) = Y14 (inp m c) :=
      r14.trans ((Cert.ReferenceIdeal.Read.val_main_v191_eq (F := Ideal) (StableHlo.launchContents m' c)).trans (ref14 R))
    exact ⟨q6, q7, q8, q9, q10, q11, q12, q13, q14, hr⟩

end Cert.Proof

end

end
-- ==== Proof.Grad2.lean ====
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pointwise
public import Idealize.ShloMosaic.Lib.IdealHost
public import Idealize.ShloMosaic.Lib.Pipeline.ValueKit

/-! The gradient of the MLP's first weight: the kernel's column blocks and the reference's one product are the same sums
    over the tokens. -/

@[expose] public section

set_option maxRecDepth 16384

noncomputable section

namespace Cert.Kernel2Ideal.Val

open Idealize.ShloMosaic Idealize.ShloMosaic.TcCoe Idealize.SL.Sem Cert.Kernel2Ideal Cert.Kernel2Ideal.Gen

/-- Entry `(n, k, j)` of the gradient: the sum over the tokens of row entry `k` by hidden entry `1024 n + j`. -/
def entry (U : S4096x1024.Idx → EReal) (D : S4096x4096.Idx → EReal) (n : Fin 4) (k j : Fin 1024) : EReal :=
  ∑ t : Fin 4096, U (ix2 t k) * D (ix2 t (⟨n.val * 1024 + j.val, by omega⟩ : Fin 4096))

def grad (U : S4096x1024.Idx → EReal) (D : S4096x4096.Idx → EReal) (i : S4x1024x1024.Idx) : EReal :=
  entry U D (i 0) (i 1) (i 2)

/-- The body's two stores, as a value. -/
theorem pay (a : Vec Ideal S4096x1024 .bf16) (b : Vec Ideal S4096x1024 .bf16) (z : Fin 1) (k j : Fin 1024) :
    k0_pay2 (k0_pay1 (F := Ideal)) a b (ix3 z k j) = ∑ t : Fin 4096, a (ix2 t k) * b (ix2 t j) := by
  unfold k0_pay2 k0_pay1
  pointwise

/-- What a point leaves in the output's buffer. -/
theorem left (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S1x1024x1024 .f32) (h4 : a4.IsWhole)
    (hc : cond0_0 i) (x0 : Vec Ideal S4096x1024 .bf16) (x1 : Vec Ideal S4096x1024 .bf16) :
    out0_A_2 c i a2 h2 a3 h3 a4 h4 hc x0 x1 = k0_pay2 (k0_pay1 (F := Ideal)) x0 x1 := by
  have z2 : (![0, 0] : Fin 2 → Nat) = fun _ => 0 := funext fun a => by fin_cases a <;> rfl
  have z3 : (![0, 0, 0] : Fin 3 → Nat) = fun _ => 0 := funext fun a => by fin_cases a <;> rfl
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024x1024) z3, View.readCov_unit_zero (S := S1x1024x1024) _ z3]
  simp only [View.readAt_eq_ld, h2.read_unread, h3.read_unread, View.ld_unit_zero (S := S4096x1024) z2]

/-- The block of each window at a point. -/
theorem idx : ∀ t : Fin cfg0.N, win0_0.index t = ![0, 0] ∧ win0_1.index t = ![0, t.val] ∧ win0_2.index t = ![t.val, 0, 0] :=
  (by decide +kernel : ∀ t : Fin grid0.N, _)

theorem tN (t : Fin cfg0.N) : t.val < 4 := Nat.lt_of_lt_of_eq t.isLt N_0

variable (m : (ℓ : Loc nD τ sig) → Buf (Elt Ideal) ℓ) (c : Dev nD) (t : Fin cfg0.N)

theorem blk0 (r : Fin 4096) (k : Fin 1024) : iblk m c 0 t (ix2 r k) = m (c, Proc.tc.devRef main_arg0) (ix2 r k) := by
  unfold iblk
  rw [View.read_apply]
  show V m c main_arg0 _ = _
  rw [V_main_arg0]
  refine congrArg _ ?_
  blk_ext [idx t]

theorem blk1 (r : Fin 4096) (j : Fin 1024) : iblk m c 1 t (ix2 r j)
    = m (c, Proc.tc.devRef main_arg1) (ix2 r (⟨t.val * 1024 + j.val, by have := tN t; omega⟩ : Fin 4096)) := by
  unfold iblk
  rw [View.read_apply]
  show V m c main_arg1 _ = _
  rw [V_main_arg1]
  refine congrArg _ ?_
  blk_ext [idx t]

/-- A point's block is its column block of the gradient. -/
theorem tile : k0_pay2 (k0_pay1 (F := Ideal)) (iblk m c 0 t) (iblk m c 1 t) = fun y : S1x1024x1024.Idx =>
    grad (m (c, Proc.tc.devRef main_arg0)) (m (c, Proc.tc.devRef main_arg1)) (ix3 (⟨t.val, tN t⟩ : Fin 4) (y 1 : Fin 1024) (y 2 : Fin 1024)) := by
  funext y; idx_vars y
  rw [pay]
  simp only [blk0, blk1]
  rfl

theorem arr : (dats m 0 c).arrAt 2 cfg0.N = grad (m (c, Proc.tc.devRef main_arg0)) (m (c, Proc.tc.devRef main_arg1)) := by
  refine (dats m 0 c).arrAt_eq_of_covers 2 _ (by decide +kernel) fun t _ y => ?_
  blk_simp
  rw [after0_2]
  have e : outsAt0 m c t = k0_pay2 (k0_pay1 (F := Ideal)) (iblk m c 0 t) (iblk m c 1 t) := left ..
  rw [e, tile]
  show grad _ _ (ix3 (⟨t.val, tN t⟩ : Fin 4) (y 1 : Fin 1024) (y 2 : Fin 1024) : S4x1024x1024.Idx) = _
  refine congrArg (grad _ _) ?_
  blk_ext [idx t]

end Cert.Kernel2Ideal.Val

namespace Cert.Reference2Ideal.Val

open Idealize.ShloMosaic Cert.Reference2Ideal Cert.Reference2Ideal.Gen

theorem result (U : S4096x1024.Idx → EReal) (D : S4096x4096.Idx → EReal) :
    (transpose S4x1024x1024 [1, 0, 2] (shapeCast _ (transpose S1024x4096 [1, 0] (Host.dotGeneral (F := Ideal) (φ₁ := .f32) (φ₂ := .f32) dot_S4096x4096_S4096x1024_S4096x1024_0_0_1_1_n_n none (extf (φ := .bf16) (F := Ideal) .f32 D bitsLt_bf16_f32) (extf (φ := .bf16) .f32 U bitsLt_bf16_f32)) transposes_S4096x1024_S1024x4096_1_0) shapeCasts_S1024x4096_S1024x4x1024) transposes_S1024x4x1024_S4x1024x1024_1_0_2)
      = Cert.Kernel2Ideal.Val.grad U D := by
  funext i; idx_vars i
  pointwise
  exact Finset.sum_congr rfl fun _ _ => mul_comm _ _

end Cert.Reference2Ideal.Val

namespace Cert.Proof

open Idealize.ShloMosaic Idealize.SL.Sem

section
open Cert.Kernel2Ideal

/-- The frame of the ideal reading's text over the machine's own floats. -/
def FrameBits2 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameBits2_eq : Cert.quiescent_Kernel2 = FrameBits2 := by sl_kernel_rfl

end

theorem frame_kernel2 : Cert.quiescent_Kernel2 :=
  frameBits2_eq.mpr fun m ρ _ => Cert.Kernel2Ideal.Gen.frame (F := Bits) m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2,
    sem_eq_zero_of_no_sems (by decide) r.2⟩) (Cert.Reference2Ideal.Value.run (F := Ideal) m ρ)

/-- The kernel ends with the reference's gradient of the MLP's first weight. -/
theorem algebraic2 : Cert.algebraic_Kernel2Ideal_Reference2Ideal := by
  intro m g m' g' _ hag
  refine ⟨fun c => Cert.Kernel2Ideal.Val.grad (m (c, Proc.tc.devRef Cert.Kernel2Ideal.main_arg0)) (m (c, Proc.tc.devRef Cert.Kernel2Ideal.main_arg1)), ?_, ?_⟩
  · refine (θ_run _ _ _).mono (fun r h c => ?_) (Cert.Kernel2Ideal.Value.run_blocks m g)
    obtain ⟨h1, h2⟩ := h c
    exact ⟨h1.trans (Cert.Kernel2Ideal.Val.arr m c), h2⟩
  · refine (θ_run _ _ _).mono (fun r h c => ?_) (Cert.Reference2Ideal.Value.run m' g')
    obtain ⟨h1, h2⟩ := h c
    obtain ⟨e0, e1⟩ := hag c
    refine ⟨h1.trans ?_, h2⟩
    rw [e0, e1]
    exact Cert.Reference2Ideal.Val.result _ _

end Cert.Proof

end
-- ==== Proof.Grad3.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pointwise
public import Idealize.ShloMosaic.Lib.IdealHost
public import Idealize.ShloMosaic.Lib.Pipeline.ValueKit

/-! The gradient of the output projection's weight: the kernel adds the sums over two halves of the tokens, the reference
    sums over all of them. -/

@[expose] public section

set_option maxRecDepth 16384

noncomputable section

namespace Cert.Kernel3Ideal.Val

open Idealize.ShloMosaic Idealize.ShloMosaic.TcCoe Idealize.SL.Sem Cert.Kernel3Ideal Cert.Kernel3Ideal.Gen

/-- Entry `(k, j)` of the gradient: the sum over the tokens of entry `k` of the heads by entry `j` of the mix's gradient. -/
def entry (U D : S4096x1024.Idx → EReal) (k j : Fin 1024) : EReal := ∑ t : Fin 4096, U (ix2 t k) * D (ix2 t j)

def grad (U D : S4096x1024.Idx → EReal) (i : S1x1024x1024.Idx) : EReal := entry U D (i 1) (i 2)

/-- The sums over the two halves add to the sum over the whole. -/
theorem halves (f : Fin 4096 → EReal) :
    (∑ r : Fin 2048, f ⟨r.val, by omega⟩) + (∑ r : Fin 2048, f ⟨2048 + r.val, by omega⟩) = ∑ t, f t :=
  (Fin.sum_univ_add (a := 2048) (b := 2048) f).symm

/-- The first point's stores, as a value. -/
theorem pay_first (a b : Vec Ideal S2048x1024 .bf16) (z : Fin 1) (k j : Fin 1024) :
    k0_pay2 (k0_pay1 (F := Ideal)) a b (ix3 z k j) = ∑ t : Fin 2048, a (ix2 t k) * b (ix2 t j) := by
  unfold k0_pay2 k0_pay1
  pointwise

/-- The later point's store, over what the buffer held. -/
theorem pay_next (acc : Vec Ideal S1x1024x1024 .f32) (a b : Vec Ideal S2048x1024 .bf16) (z : Fin 1) (k j : Fin 1024) :
    k0_pay2 acc a b (ix3 z k j) = acc (ix3 z k j) + ∑ t : Fin 2048, a (ix2 t k) * b (ix2 t j) := by
  obtain rfl : z = 0 := Subsingleton.elim _ _
  unfold k0_pay2
  pointwise

/-- The block of each window at a point. -/
theorem idx : ∀ t : Fin cfg0.N, win0_0.index t = ![t.val, 0] ∧ win0_1.index t = ![t.val, 0] ∧ win0_2.index t = ![0, 0, 0] :=
  (by decide +kernel : ∀ t : Fin grid0.N, _)

theorem tN (t : Fin cfg0.N) : t.val < 2 := Nat.lt_of_lt_of_eq t.isLt N_0

variable (m : (ℓ : Loc nD τ sig) → Buf (Elt Ideal) ℓ) (c : Dev nD) (t : Fin cfg0.N)

theorem blk0 (r : Fin 2048) (k : Fin 1024) : iblk m c 0 t (ix2 r k)
    = m (c, Proc.tc.devRef main_arg0) (ix2 (⟨t.val * 2048 + r.val, by have := tN t; omega⟩ : Fin 4096) k) := by
  unfold iblk
  rw [View.read_apply]
  show V m c main_arg0 _ = _
  rw [V_main_arg0]
  refine congrArg _ ?_
  blk_ext [idx t]

theorem blk1 (r : Fin 2048) (j : Fin 1024) : iblk m c 1 t (ix2 r j)
    = m (c, Proc.tc.devRef main_arg1) (ix2 (⟨t.val * 2048 + r.val, by have := tN t; omega⟩ : Fin 4096) j) := by
  unfold iblk
  rw [View.read_apply]
  show V m c main_arg1 _ = _
  rw [V_main_arg1]
  refine congrArg _ ?_
  blk_ext [idx t]

/-- After the second point the buffer holds the gradient. -/
theorem both (h0 : 0 < cfg0.N) (h1 : 0 + 1 < cfg0.N) : Value.step2 m c (0 + 1) h1 (Value.reset2 m c 0 h0)
    = grad (m (c, Proc.tc.devRef main_arg0)) (m (c, Proc.tc.devRef main_arg1)) := by
  funext y; idx_vars y
  unfold Value.step2 Value.reset2
  rw [pay_next, pay_first]
  simp only [blk0, blk1]
  show _ = entry _ _ y1 y2
  unfold entry
  rw [← halves]
  simp only [Nat.zero_mul, Nat.zero_add, Nat.one_mul]

theorem atLast (hm : t.val % 2 = 1) : outsAt0 m c t.val t.isLt
    = grad (m (c, Proc.tc.devRef main_arg0)) (m (c, Proc.tc.devRef main_arg1)) := by
  have h0 : 0 < cfg0.N := by rw [show cfg0.N = 2 from N_0]; decide
  have h1 : 0 + 1 < cfg0.N := by rw [show cfg0.N = 2 from N_0]; decide
  have eA : outsAt0 m c 0 h0 = Value.reset2 m c 0 h0 := by
    rw [outsAt0_A m c ⟨0, h0⟩ rfl]
    exact Value.out_A_2_eq ..
  have eB : outsAt0 m c (0 + 1) h1 = Value.step2 m c (0 + 1) h1 (outsAt0 m c 0 h0) := by
    rw [outsAt0_B m c ⟨0 + 1, h1⟩ (by show (0 + 1) % 2 ≠ 0; decide)]
    exact Value.out_B_2_eq ..
  have e : outsAt0 m c (0 + 1) h1 = grad (m (c, Proc.tc.devRef main_arg0)) (m (c, Proc.tc.devRef main_arg1)) := by
    rw [eB, eA, both]
  have ht : t.val = 0 + 1 := by have := tN t; omega
  have f : ∀ n (h : n < cfg0.N), n = 0 + 1 → outsAt0 m c n h = outsAt0 m c (0 + 1) h1 := by
    intro n h hn
    subst hn
    rfl
  exact (f _ _ ht).trans e

theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  have hm : t.val % 2 = 1 := (flush0_2 t).mp hf
  blk_simp
  rw [after0_2, atLast m c t hm]
  refine congrArg (grad _ _) ?_
  blk_ext [idx t]

end Cert.Kernel3Ideal.Val

namespace Cert.Reference3Ideal.Val

open Idealize.ShloMosaic Cert.Reference3Ideal Cert.Reference3Ideal.Gen

theorem result (U D : S4096x1024.Idx → EReal) :
    broadcastInDim S1x1024x1024 ![1, 2] bcast_S1024x1024_S1x1024x1024_1_2 (transpose S1024x1024 [1, 0] (Host.dotGeneral (F := Ideal) (φ₁ := .f32) (φ₂ := .f32) dot_S4096x1024_S4096x1024_S1024x1024_0_0_1_1_n_n none (extf (φ := .bf16) (F := Ideal) .f32 D bitsLt_bf16_f32) (extf (φ := .bf16) .f32 U bitsLt_bf16_f32)) transposes_S1024x1024_S1024x1024_1_0)
      = Cert.Kernel3Ideal.Val.grad U D := by
  funext i; idx_vars i
  pointwise
  exact Finset.sum_congr rfl fun _ _ => mul_comm _ _

end Cert.Reference3Ideal.Val

namespace Cert.Proof

open Idealize.ShloMosaic Idealize.SL.Sem

section
open Cert.Kernel3Ideal

/-- The frame of the ideal reading's text over the machine's own floats. -/
def FrameBits3 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameBits3_eq : Cert.quiescent_Kernel3 = FrameBits3 := by sl_kernel_rfl

end

theorem frame_kernel3 : Cert.quiescent_Kernel3 :=
  frameBits3_eq.mpr fun m ρ _ => Cert.Kernel3Ideal.Gen.frame (F := Bits) m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

/-- The kernel ends with the reference's gradient of the output projection's weight. -/
theorem algebraic3 : Cert.algebraic_Kernel3Ideal_Reference3Ideal := by
  intro m g m' g' _ hag
  refine ⟨fun c => Cert.Kernel3Ideal.Val.grad (m (c, Proc.tc.devRef Cert.Kernel3Ideal.main_arg0)) (m (c, Proc.tc.devRef Cert.Kernel3Ideal.main_arg1)), ?_, ?_⟩
  · refine (θ_run _ _ _).mono (fun r h c => ?_) (Cert.Kernel3Ideal.Value.run_blocks m g)
    obtain ⟨h1, h2⟩ := h c
    exact ⟨h1.trans (Cert.Kernel3Ideal.Val.arr m c), h2⟩
  · refine (θ_run _ _ _).mono (fun r h c => ?_) (Cert.Reference3Ideal.Value.run m' g')
    obtain ⟨h1, h2⟩ := h c
    obtain ⟨e0, e1⟩ := hag c
    refine ⟨h1.trans ?_, h2⟩
    rw [e0, e1]
    exact Cert.Reference3Ideal.Val.result _ _

end Cert.Proof

end
-- ==== Proof.Grad4.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.Pipeline.ValueKit

/-! The gradient of the conditioning's weight: the kernel sums over the eight devices' rows and eight rows of zeros, the
    reference over the eight rows. -/

@[expose] public section

set_option maxRecDepth 16384

noncomputable section

namespace Cert.Kernel4Ideal.Val

open Idealize.ShloMosaic Idealize.ShloMosaic.TcCoe Idealize.SL.Sem Cert.Kernel4Ideal Cert.Kernel4Ideal.Gen

/-- The conditioning after its activation, of the conditioning `C`. -/
def cond (C : FVec Ideal S8x1024 .f32) : FVec Ideal S8x1024 .f32 :=
  mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))

/-- Entry `(k, j)` of the gradient: the sum over the devices' rows. -/
def entry (C : FVec Ideal S8x1024 .f32) (D : S8x1536.Idx → EReal) (k : Fin 1024) (j : Fin 1536) : EReal :=
  ∑ t : Fin 8, cond C (ix2 t k) * D (ix2 t j)

def grad (C : FVec Ideal S8x1024 .f32) (D : S8x1536.Idx → EReal) (i : S1x1024x1536.Idx) : EReal := entry C D (i 1) (i 2)

/-- Row `t` of sixteen: an array's own eight rows, then zeros. -/
def row {n : Nat} (f : Fin 8 → Fin n → EReal) (t : Fin 16) (k : Fin n) : EReal :=
  if h : t.val < 8 then f ⟨t.val, h⟩ k else 0

/-- The zero rows add nothing. -/
theorem rows {n p : Nat} (f : Fin 8 → Fin n → EReal) (g : Fin 8 → Fin p → EReal) (k : Fin n) (j : Fin p) :
    (∑ t : Fin 16, row f t k * row g t j) = ∑ t : Fin 8, f t k * g t j := by
  rw [show (∑ t : Fin 16, row f t k * row g t j) = _ from Fin.sum_univ_add (a := 8) (b := 8) fun t => row f t k * row g t j]
  have e : (∑ t : Fin 8, row f (Fin.natAdd 8 t) k * row g (Fin.natAdd 8 t) j) = 0 :=
    Finset.sum_eq_zero fun t _ => by
      rw [row, dif_neg (by show ¬ 8 + t.val < 8; omega), zero_mul]
  rw [e, add_zero]
  refine Finset.sum_congr rfl fun t _ => ?_
  have h : (Fin.castAdd 8 t).val < 8 := t.isLt
  rw [row, row, dif_pos h, dif_pos h]
  rfl

/-- The body's two stores, as a value. -/
theorem pay (a : Vec Ideal S16x1024 .f32) (b : Vec Ideal S16x1536 .f32) (z : Fin 1) (k : Fin 1024) (j : Fin 1536) :
    k0_pay2 (k0_pay1 (F := Ideal)) a b (ix3 z k j) = ∑ t : Fin 16, a (ix2 t k) * b (ix2 t j) := by
  unfold k0_pay2 k0_pay1
  pointwise

/-- What the point leaves in the output's buffer. -/
theorem left (c : Dev nD) (i : grid0.Coords) (a2 : Memref sig .tc .vmem S16x1024 .f32) (h2 : a2.IsWhole)
    (a3 : Memref sig .tc .vmem S16x1536 .f32) (h3 : a3.IsWhole) (a4 : Memref sig .tc .vmem S1x1024x1536 .f32) (h4 : a4.IsWhole)
    (hc : cond0_0 i) (x0 : Vec Ideal S16x1024 .f32) (x1 : Vec Ideal S16x1536 .f32) :
    out0_A_2 c i a2 h2 a3 h3 a4 h4 hc x0 x1 = k0_pay2 (k0_pay1 (F := Ideal)) x0 x1 := by
  have z2 : (![0, 0] : Fin 2 → Nat) = fun _ => 0 := funext fun a => by fin_cases a <;> rfl
  have z3 : (![0, 0, 0] : Fin 3 → Nat) = fun _ => 0 := funext fun a => by fin_cases a <;> rfl
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024x1536) z3, View.readCov_unit_zero (S := S1x1024x1536) _ z3]
  simp only [View.readAt_eq_ld, h2.read_unread, h3.read_unread, View.ld_unit_zero (S := S16x1024) z2, View.ld_unit_zero (S := S16x1536) z2]

/-- The block of each window at the point. -/
theorem idx : ∀ t : Fin cfg0.N, win0_0.index t = ![0, 0] ∧ win0_1.index t = ![0, 0] ∧ win0_2.index t = ![0, 0, 0] :=
  (by decide +kernel : ∀ t : Fin grid0.N, _)

variable (m : (ℓ : Loc nD τ sig) → Buf (Elt Ideal) ℓ) (c : Dev nD) (t : Fin cfg0.N)

theorem V2 : V m c main_v2 = concatenate S16x1024 0 [⟨S8x1024, cond (m (c, Proc.tc.devRef main_arg0))⟩,
    ⟨S8x1024, broadcastInDim S8x1024 ![] bcast_S_S8x1024 (constant (F := Ideal) S_ .f32 0x00000000#32)⟩] concatenates_S8x1024_S8x1024_S16x1024_d0 := by
  entry_read
  rfl

theorem V4 : V m c main_v4 = concatenate S16x1536 0 [⟨S8x1536, m (c, Proc.tc.devRef main_arg1)⟩,
    ⟨S8x1536, broadcastInDim S8x1536 ![] bcast_S_S8x1536 (constant (F := Ideal) S_ .f32 0x00000000#32)⟩] concatenates_S8x1536_S8x1536_S16x1536_d0 := by
  entry_read
  rfl

theorem blk0 (r : Fin 16) (k : Fin 1024) : iblk m c 0 t (ix2 r k)
    = row (fun s x => cond (m (c, Proc.tc.devRef main_arg0)) (ix2 s x)) r k := by
  have e : iblk m c 0 t (ix2 r k) = V m c main_v2 (ix2 r k) := by
    blk_ext [iblk, idx t]
  rw [e, V2]
  generalize cond (m (c, Proc.tc.devRef main_arg0)) = C
  pointwise
  unfold row
  split <;> simp

theorem blk1 (r : Fin 16) (j : Fin 1536) : iblk m c 1 t (ix2 r j)
    = row (fun s x => m (c, Proc.tc.devRef main_arg1) (ix2 s x : S8x1536.Idx)) r j := by
  have e : iblk m c 1 t (ix2 r j) = V m c main_v4 (ix2 r j) := by
    blk_ext [iblk, idx t]
  rw [e, V4]
  generalize m (c, Proc.tc.devRef main_arg1) = C
  pointwise
  unfold row
  split <;> simp

theorem tile : k0_pay2 (k0_pay1 (F := Ideal)) (iblk m c 0 t) (iblk m c 1 t)
    = grad (m (c, Proc.tc.devRef main_arg0)) (m (c, Proc.tc.devRef main_arg1)) := by
  funext y; idx_vars y
  rw [pay]
  simp only [blk0, blk1]
  rw [rows]
  rfl

theorem arr : (dats m 0 c).arrAt 2 cfg0.N = grad (m (c, Proc.tc.devRef main_arg0)) (m (c, Proc.tc.devRef main_arg1)) := by
  refine (dats m 0 c).arrAt_eq_of_covers 2 _ (by decide +kernel) fun t _ y => ?_
  blk_simp
  rw [after0_2]
  have e : outsAt0 m c t = k0_pay2 (k0_pay1 (F := Ideal)) (iblk m c 0 t) (iblk m c 1 t) := left ..
  rw [e, tile]
  refine congrArg (grad _ _) ?_
  blk_ext [idx t]

end Cert.Kernel4Ideal.Val

namespace Cert.Reference4Ideal.Val

open Idealize.ShloMosaic Cert.Reference4Ideal Cert.Reference4Ideal.Gen

theorem result (C : FVec Ideal S8x1024 .f32) (D : FVec Ideal S8x1536 .f32) :
    broadcastInDim S1x1024x1536 ![1, 2] bcast_S1024x1536_S1x1024x1536_1_2 (transpose S1024x1536 [1, 0] (Host.dotGeneral (F := Ideal) (φ₁ := .f32) (φ₂ := .f32) dot_S8x1536_S8x1024_S1536x1024_0_0_1_1_n_n none D (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C)))))) transposes_S1536x1024_S1024x1536_1_0)
      = Cert.Kernel4Ideal.Val.grad C D := by
  show broadcastInDim S1x1024x1536 ![1, 2] bcast_S1024x1536_S1x1024x1536_1_2 (transpose S1024x1536 [1, 0] (Host.dotGeneral (F := Ideal) (φ₁ := .f32) (φ₂ := .f32) dot_S8x1536_S8x1024_S1536x1024_0_0_1_1_n_n none D (Cert.Kernel4Ideal.Val.cond C)) transposes_S1536x1024_S1024x1536_1_0) = _
  have e : ∀ k j, Cert.Kernel4Ideal.Val.entry C D k j = ∑ t : Fin 8, Cert.Kernel4Ideal.Val.cond C (ix2 t k) * D (ix2 t j) := fun _ _ => rfl
  funext i; idx_vars i
  show _ = Cert.Kernel4Ideal.Val.entry C D i1 i2
  rw [e]
  generalize Cert.Kernel4Ideal.Val.cond C = W
  pointwise
  exact Finset.sum_congr rfl fun _ _ => mul_comm _ _

end Cert.Reference4Ideal.Val

namespace Cert.Proof

open Idealize.ShloMosaic Idealize.SL.Sem

section
open Cert.Kernel4Ideal

/-- The frame of the ideal reading's text over the machine's own floats. -/
def FrameBits4 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameBits4_eq : Cert.quiescent_Kernel4 = FrameBits4 := by sl_kernel_rfl

end

theorem frame_kernel4 : Cert.quiescent_Kernel4 :=
  frameBits4_eq.mpr fun m ρ _ => Cert.Kernel4Ideal.Gen.frame (F := Bits) m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

/-- The kernel ends with the reference's gradient of the conditioning's weight. -/
theorem algebraic4 : Cert.algebraic_Kernel4Ideal_Reference4Ideal := by
  intro m g m' g' _ hag
  refine ⟨fun c => Cert.Kernel4Ideal.Val.grad (m (c, Proc.tc.devRef Cert.Kernel4Ideal.main_arg0)) (m (c, Proc.tc.devRef Cert.Kernel4Ideal.main_arg1)), ?_, ?_⟩
  · refine (θ_run _ _ _).mono (fun r h c => ?_) (Cert.Kernel4Ideal.Value.run_blocks m g)
    obtain ⟨h1, h2⟩ := h c
    exact ⟨h1.trans (Cert.Kernel4Ideal.Val.arr m c), h2⟩
  · refine (θ_run _ _ _).mono (fun r h c => ?_) (Cert.Reference4Ideal.Value.run m' g')
    obtain ⟨h1, h2⟩ := h c
    obtain ⟨e0, e1⟩ := hag c
    refine ⟨h1.trans ?_, h2⟩
    rw [e0, e1]
    exact Cert.Reference4Ideal.Val.result _ _

end Cert.Proof

end
-- ==== Proof.Adam5.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Pointwise
public import Idealize.ShloMosaic.Lib.IdealHost
public import Idealize.ShloMosaic.Lib.Pipeline.ValueKit

/-! The optimiser's step of the conditioning's weight: the kernel's row tiles and the reference's whole arrays hold the
    same entries, one formula of the weight, its gradient and its two moments. -/

@[expose] public section

set_option maxRecDepth 16384

noncomputable section

namespace Cert.Kernel5Ideal.Val

open Idealize.ShloMosaic Idealize.ShloMosaic.TcCoe Idealize.SL.Sem Cert.Kernel5Ideal Cert.Kernel5Ideal.Gen

/-- The new first moment of one entry, of its gradient and its first moment. -/
def mean (g m : EReal) : EReal :=
  FloatOps.addf (F := Ideal) (φ := .f32) (FloatOps.mulf (F := Ideal) (φ := .f32) (Scalar.ofBits .f32 0x3F666666#32) m)
    (FloatOps.mulf (F := Ideal) (φ := .f32) (Scalar.ofBits .f32 0x3DCCCCCD#32) g)

/-- The new second moment. -/
def square (g v : EReal) : EReal :=
  FloatOps.addf (F := Ideal) (φ := .f32) (FloatOps.mulf (F := Ideal) (φ := .f32) (Scalar.ofBits .f32 0x3F7FBE77#32) v)
    (FloatOps.mulf (F := Ideal) (φ := .f32) (Scalar.ofBits .f32 0x3A83126F#32) (FloatOps.mulf (F := Ideal) (φ := .f32) g g))

/-- The weight's change. -/
def change (w g m v : EReal) : EReal :=
  FloatOps.mulf (F := Ideal) (φ := .f32) (Scalar.ofBits .f32 0xBA83126F#32)
    (FloatOps.addf (F := Ideal) (φ := .f32)
      (FloatOps.divf (F := Ideal) (φ := .f32)
        (FloatOps.divf (F := Ideal) (φ := .f32) (mean g m) (Scalar.ofBits .f32 0x3F26BD02#32))
        (FloatOps.addf (F := Ideal) (φ := .f32)
          (FloatOps.sqrt (F := Ideal) (φ := .f32)
            (FloatOps.divf (F := Ideal) (φ := .f32) (square g v) (Scalar.ofBits .f32 0x3C231ACC#32)))
          (Scalar.ofBits .f32 0x322BCC77#32)))
      (FloatOps.mulf (F := Ideal) (φ := .f32) (Scalar.ofBits .f32 0x3C23D70A#32) w))

/-- The three results, entry by entry. -/
def newMean (G M : S1024x1536.Idx → EReal) (i : S1024x1536.Idx) : EReal := mean (G i) (M i)
def newSquare (G V : S1024x1536.Idx → EReal) (i : S1024x1536.Idx) : EReal := square (G i) (V i)
def delta (W G M V : S1024x1536.Idx → EReal) (i : S1024x1536.Idx) : EReal := change (W i) (G i) (M i) (V i)

/-- The body's loads take the whole tile. -/
theorem whole (x : Vec Ideal S256x1536 .f32) : View.ld x r0_0 = x := by
  have z2 : (![0, 0] : Fin 2 → Nat) = fun _ => 0 := funext fun a => by fin_cases a <;> rfl
  exact View.ld_unit_zero (S := S256x1536) z2 _ x

/-- What a point leaves in each output's buffer, entry by entry. -/
theorem left4 (x0 x1 x2 x3 : Vec Ideal S256x1536 .f32) (r : Fin 256) (j : Fin 1536) :
    out0_4 x0 x1 x2 x3 (ix2 r j) = change (x0 (ix2 r j)) (x1 (ix2 r j)) (x2 (ix2 r j)) (x3 (ix2 r j)) := by
  unfold out0_4
  refine (Value.canon4_eq ..).trans ?_
  have e : Value.ix4_0 (ix2 r j) = ix2 r j := by funext a; fin_cases a <;> rfl
  simp only [whole]
  show change (x0 (Value.ix4_0 (ix2 r j))) (x1 (Value.ix4_0 (ix2 r j))) (x2 (Value.ix4_0 (ix2 r j))) (x3 (Value.ix4_0 (ix2 r j))) = _
  rw [e]

theorem left5 (x0 x1 x2 x3 : Vec Ideal S256x1536 .f32) (r : Fin 256) (j : Fin 1536) :
    out0_5 x0 x1 x2 x3 (ix2 r j) = mean (x1 (ix2 r j)) (x2 (ix2 r j)) := by
  unfold out0_5
  refine (Value.canon5_eq ..).trans ?_
  have e : Value.ix5_0 (ix2 r j) = ix2 r j := by funext a; fin_cases a <;> rfl
  simp only [whole]
  show mean (x1 (Value.ix5_0 (ix2 r j))) (x2 (Value.ix5_0 (ix2 r j))) = _
  rw [e]

theorem left6 (x0 x1 x2 x3 : Vec Ideal S256x1536 .f32) (r : Fin 256) (j : Fin 1536) :
    out0_6 x0 x1 x2 x3 (ix2 r j) = square (x1 (ix2 r j)) (x3 (ix2 r j)) := by
  unfold out0_6
  refine (Value.canon6_eq ..).trans ?_
  have e : Value.ix6_0 (ix2 r j) = ix2 r j := by funext a; fin_cases a <;> rfl
  simp only [whole]
  show square (x1 (Value.ix6_0 (ix2 r j))) (x3 (Value.ix6_0 (ix2 r j))) = _
  rw [e]

/-- The block of each window at a point: a tile of 256 rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem tN (t : Fin cfg0.N) : t.val < 4 := Nat.lt_of_lt_of_eq t.isLt N_0

variable (m : (ℓ : Loc nD τ sig) → Buf (Elt Ideal) ℓ) (c : Dev nD) (t : Fin cfg0.N)

/-- Where entry `(r, j)` of a point's tile lies in the array. -/
def at5 (r : Fin 256) (j : Fin 1536) : S1024x1536.Idx := ix2 (⟨t.val * 256 + r.val, by have := tN t; omega⟩ : Fin 1024) j

theorem blk0 (r : Fin 256) (j : Fin 1536) : iblk m c 0 t (ix2 r j) = m (c, Proc.tc.devRef main_arg0) (at5 t r j) := by
  unfold iblk
  rw [View.read_apply]
  show V m c main_arg0 _ = _
  rw [V_main_arg0]
  refine congrArg _ ?_
  unfold at5
  blk_ext [idx t]

theorem blk1 (r : Fin 256) (j : Fin 1536) : iblk m c 1 t (ix2 r j) = m (c, Proc.tc.devRef main_arg1) (at5 t r j) := by
  unfold iblk
  rw [View.read_apply]
  show V m c main_arg1 _ = _
  rw [V_main_arg1]
  refine congrArg _ ?_
  unfold at5
  blk_ext [idx t]

theorem blk2 (r : Fin 256) (j : Fin 1536) : iblk m c 2 t (ix2 r j) = m (c, Proc.tc.devRef main_arg2) (at5 t r j) := by
  unfold iblk
  rw [View.read_apply]
  show V m c main_arg2 _ = _
  rw [V_main_arg2]
  refine congrArg _ ?_
  unfold at5
  blk_ext [idx t]

theorem blk3 (r : Fin 256) (j : Fin 1536) : iblk m c 3 t (ix2 r j) = m (c, Proc.tc.devRef main_arg3) (at5 t r j) := by
  unfold iblk
  rw [View.read_apply]
  show V m c main_arg3 _ = _
  rw [V_main_arg3]
  refine congrArg _ ?_
  unfold at5
  blk_ext [idx t]

theorem arr4 : (dats m 0 c).arrAt 4 cfg0.N = delta (m (c, Proc.tc.devRef main_arg0)) (m (c, Proc.tc.devRef main_arg1))
    (m (c, Proc.tc.devRef main_arg2)) (m (c, Proc.tc.devRef main_arg3)) := by
  refine (dats m 0 c).arrAt_eq_of_covers 4 _ (by decide +kernel) fun t _ y => ?_
  have e : out0_4 (iblk m c 0 t) (iblk m c 1 t) (iblk m c 2 t) (iblk m c 3 t) = fun y : S256x1536.Idx =>
      delta (m (c, Proc.tc.devRef main_arg0)) (m (c, Proc.tc.devRef main_arg1)) (m (c, Proc.tc.devRef main_arg2))
        (m (c, Proc.tc.devRef main_arg3)) (at5 t (y 0 : Fin 256) (y 1 : Fin 1536)) := by
    funext y; idx_vars y
    rw [left4, blk0, blk1, blk2, blk3]
    rfl
  blk_simp
  rw [after0_4, e]
  refine congrArg (delta _ _ _ _) ?_
  unfold at5
  blk_ext [idx t]

theorem arr5 : (dats m 0 c).arrAt 5 cfg0.N = newMean (m (c, Proc.tc.devRef main_arg1)) (m (c, Proc.tc.devRef main_arg2)) := by
  refine (dats m 0 c).arrAt_eq_of_covers 5 _ (by decide +kernel) fun t _ y => ?_
  have e : out0_5 (iblk m c 0 t) (iblk m c 1 t) (iblk m c 2 t) (iblk m c 3 t) = fun y : S256x1536.Idx =>
      newMean (m (c, Proc.tc.devRef main_arg1)) (m (c, Proc.tc.devRef main_arg2)) (at5 t (y 0 : Fin 256) (y 1 : Fin 1536)) := by
    funext y; idx_vars y
    rw [left5, blk1, blk2]
    rfl
  blk_simp
  rw [after0_5, e]
  refine congrArg (newMean _ _) ?_
  unfold at5
  blk_ext [idx t]

theorem arr6 : (dats m 0 c).arrAt 6 cfg0.N = newSquare (m (c, Proc.tc.devRef main_arg1)) (m (c, Proc.tc.devRef main_arg3)) := by
  refine (dats m 0 c).arrAt_eq_of_covers 6 _ (by decide +kernel) fun t _ y => ?_
  have e : out0_6 (iblk m c 0 t) (iblk m c 1 t) (iblk m c 2 t) (iblk m c 3 t) = fun y : S256x1536.Idx =>
      newSquare (m (c, Proc.tc.devRef main_arg1)) (m (c, Proc.tc.devRef main_arg3)) (at5 t (y 0 : Fin 256) (y 1 : Fin 1536)) := by
    funext y; idx_vars y
    rw [left6, blk1, blk3]
    rfl
  blk_simp
  rw [after0_6, e]
  refine congrArg (newSquare _ _) ?_
  unfold at5
  blk_ext [idx t]

end Cert.Kernel5Ideal.Val

namespace Cert.Proof

open Idealize.ShloMosaic Idealize.SL.Sem

section
open Cert.Kernel5Ideal

/-- The frame of the ideal reading's text over the machine's own floats. -/
def FrameBits5 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frameBits5_eq : Cert.quiescent_Kernel5 = FrameBits5 := by sl_kernel_rfl

end

theorem frame_kernel5 : Cert.quiescent_Kernel5 :=
  frameBits5_eq.mpr fun m ρ _ => Cert.Kernel5Ideal.Gen.frame (F := Bits) m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2.2,
    sem_eq_zero_of_no_sems (by decide) r.2⟩) (Cert.Reference5Ideal.Value.run (F := Ideal) m ρ)

/-- The kernel ends with the reference's step of the conditioning's weight. -/
theorem algebraic5 : Cert.algebraic_Kernel5Ideal_Reference5Ideal := by
  intro m g m' g' _ hag
  refine ⟨fun c => Cert.Kernel5Ideal.Val.delta (m (c, Proc.tc.devRef Cert.Kernel5Ideal.main_arg0))
      (m (c, Proc.tc.devRef Cert.Kernel5Ideal.main_arg1)) (m (c, Proc.tc.devRef Cert.Kernel5Ideal.main_arg2))
      (m (c, Proc.tc.devRef Cert.Kernel5Ideal.main_arg3)),
    fun c => Cert.Kernel5Ideal.Val.newMean (m (c, Proc.tc.devRef Cert.Kernel5Ideal.main_arg1))
      (m (c, Proc.tc.devRef Cert.Kernel5Ideal.main_arg2)),
    fun c => Cert.Kernel5Ideal.Val.newSquare (m (c, Proc.tc.devRef Cert.Kernel5Ideal.main_arg1))
      (m (c, Proc.tc.devRef Cert.Kernel5Ideal.main_arg3)), ?_, ?_⟩
  · refine (θ_run _ _ _).mono (fun r h c => ?_) (Cert.Kernel5Ideal.Value.run_blocks m g)
    obtain ⟨h1, h2, h3, h4⟩ := h c
    exact ⟨h1.trans (Cert.Kernel5Ideal.Val.arr4 m c), h2.trans (Cert.Kernel5Ideal.Val.arr5 m c),
      h3.trans (Cert.Kernel5Ideal.Val.arr6 m c), h4⟩
  · refine (θ_run _ _ _).mono (fun r h c => ?_) (Cert.Reference5Ideal.Value.run m' g')
    obtain ⟨h1, h2, h3, h4⟩ := h c
    obtain ⟨e0, e1, e2, e3⟩ := hag c
    rw [e0, e1, e2, e3] at h1
    rw [e1, e2] at h2
    rw [e1, e3] at h3
    exact ⟨h1.trans rfl, h2.trans rfl, h3.trans rfl, h4⟩

end Cert.Proof

end
-- ==== Proof.Gate6.lean ====
module

public import proofs.«01_k».proof.Defs
public import proofs.«01_k».proof.Proof.Gen.Reference6Ideal.Read
public import proofs.«01_k».proof.Proof.Spec

/-! The gate behind the recurrence: its gradient as real functions of one token, and the reference's reading of it. -/

@[expose] public section

set_option maxRecDepth 16384

noncomputable section

namespace Cert.Gate

open Idealize.ShloMosaic Cert.Spec

/-- The width of a head, and the number added to a head's mean square. -/
def width : ℝ := 128
def small : ℝ := 8796093 * (2 : ℝ) ^ (-43 : ℤ)

theorem bits_width : Ideal.ofBits .f32 0x43000000#32 = (width : EReal) := by
  unfold width
  simp [Ideal.ofBits, Ideal.ieee, -EReal.coe_mul]; norm_num

theorem bits_small : Ideal.ofBits .f32 0x358637BD#32 = (small : EReal) := by
  unfold small
  simp [Ideal.ofBits, Ideal.ieee, -EReal.coe_mul]

theorem bits_one : Ideal.ofBits .f32 0x3F800000#32 = ((1 : ℝ) : EReal) := by
  simp [Ideal.ofBits, Ideal.ieee, -EReal.coe_mul]; norm_num

theorem width_ne : width ≠ 0 := by unfold width; norm_num

theorem r_exp (a : ℝ) : Ideal.exp (a : EReal) = ((Real.exp a : ℝ) : EReal) := rfl
theorem r_divW (a : ℝ) : Ideal.div (a : EReal) (width : EReal) = ((a / width : ℝ) : EReal) := r_div width_ne a
theorem r_logistic (a b : ℝ) : Ideal.div (a : EReal) ((1 + Real.exp b : ℝ) : EReal) = ((a / (1 + Real.exp b) : ℝ) : EReal) :=
  r_div (by positivity) a

/-- Feature `k` of head `h`, and the head of a feature. -/
def feat (h : Fin 4) (k : Fin 128) : Fin 512 := ⟨h.val * 128 + k.val, by omega⟩
def head (p : Fin 512) : Fin 4 := ⟨p.val / 128, by omega⟩

/-- A head's mean square, with the small number added. -/
def square (o : Fin 512 → ℝ) (h : Fin 4) : ℝ := (∑ k, o (feat h k) * o (feat h k)) / width + small
/-- The logistic function. -/
def logistic (x : ℝ) : ℝ := 1 / (1 + Real.exp (-x))
/-- The gradient at a feature of the gate: of the normalised output, the gradient that comes in and the derivative of
    the gate's activation. -/
def grad (o w d g : Fin 512 → ℝ) (p : Fin 512) : ℝ :=
  d p * (o p * (Real.sqrt (square o (head p)))⁻¹ * w p) * (logistic (g p) * (1 + g p * (1 - logistic (g p))))

theorem square_pos (o : Fin 512 → ℝ) (h : Fin 4) : 0 < square o h := by
  have h1 : 0 ≤ (∑ k, o (feat h k) * o (feat h k)) / width :=
    div_nonneg (Finset.sum_nonneg fun k _ => mul_self_nonneg _) (by unfold width; norm_num)
  have h2 : 0 < small := by unfold small; positivity
  unfold square; linarith

/-- What the call takes: the gate's, the norm's weight, the recurrence's output and the gradient that comes in. -/
structure Arg where
  z : Fin 4096 → Fin 2048 → ℝ
  w : Fin 1 → Fin 512 → ℝ
  o : Fin 4096 → Fin 512 → ℝ
  d : Fin 4096 → Fin 1024 → ℝ

variable (A : Arg)

def Z (i : (⟨2, ![4096, 2048]⟩ : Shape).Idx) : EReal := ((A.z (i 0) (i 1) : ℝ) : EReal)
def W (i : (⟨2, ![1, 512]⟩ : Shape).Idx) : EReal := ((A.w (i 0) (i 1) : ℝ) : EReal)
def O (i : (⟨2, ![4096, 512]⟩ : Shape).Idx) : EReal := ((A.o (i 0) (i 1) : ℝ) : EReal)
def D (i : (⟨2, ![4096, 1024]⟩ : Shape).Idx) : EReal := ((A.d (i 0) (i 1) : ℝ) : EReal)

theorem Z_at (r : Fin 4096) (p : Fin 2048) : Z A (ix2 r p) = ((A.z r p : ℝ) : EReal) := rfl
theorem W_at (r : Fin 1) (p : Fin 512) : W A (ix2 r p) = ((A.w r p : ℝ) : EReal) := rfl
theorem O_at (r : Fin 4096) (p : Fin 512) : O A (ix2 r p) = ((A.o r p : ℝ) : EReal) := rfl
theorem D_at (r : Fin 4096) (p : Fin 1024) : D A (ix2 r p) = ((A.d r p : ℝ) : EReal) := rfl

/-- The gate's gradient at every token and feature. -/
def tok (r : Fin 4096) (p : Fin 512) : ℝ :=
  grad (A.o r) (A.w 0) (fun q => A.d r ⟨q.val, by omega⟩) (fun q => A.z r ⟨1536 + q.val, by omega⟩) p
def Y (i : (⟨2, ![4096, 512]⟩ : Shape).Idx) : EReal := ((tok A (i 0) (i 1) : ℝ) : EReal)

end Cert.Gate

namespace Cert.Reference6Ideal.Val

open Idealize.ShloMosaic Idealize.ShloMosaic.TcCoe Idealize.SL.Sem Cert.Reference6Ideal Cert.Reference6Ideal.Gen Cert.Spec Cert.Gate

variable (A : Arg)

theorem row_eq (r : Fin 4096) (h : Fin 4) (k : Fin 128) (l) : (⟨((r.val * 4 + h.val) * 128 + k.val) / 512, l⟩ : Fin 4096) = r := by
  ext; show ((r.val * 4 + h.val) * 128 + k.val) / 512 = r.val; omega
theorem col_eq (r : Fin 4096) (h : Fin 4) (k : Fin 128) (l) : (⟨((r.val * 4 + h.val) * 128 + k.val) % 512, l⟩ : Fin 512) = feat h k := by
  ext; show ((r.val * 4 + h.val) * 128 + k.val) % 512 = h.val * 128 + k.val; omega
theorem row'_eq (r : Fin 4096) (p : Fin 512) (l) : (⟨(r.val * 512 + p.val) / 512, l⟩ : Fin 4096) = r := by
  ext; show (r.val * 512 + p.val) / 512 = r.val; omega
theorem head_eq (r : Fin 4096) (p : Fin 512) (l) : (⟨(r.val * 512 + p.val) / 128 % 4, l⟩ : Fin 4) = head p := by
  ext; show (r.val * 512 + p.val) / 128 % 4 = p.val / 128; omega
theorem lane_eq (r : Fin 4096) (p : Fin 512) (l) : feat (head p) (⟨(r.val * 512 + p.val) % 128, l⟩ : Fin 128) = p := by
  ext; show p.val / 128 * 128 + (r.val * 512 + p.val) % 128 = p.val; omega

theorem v1_at (r : Fin 4096) (h : Fin 4) (k : Fin 128) : Read.val_main_v1 (F := Ideal) (O A) (ix3 r h k) = ((A.o r (feat h k) : ℝ) : EReal) := by
  rw [Read.val_main_v1_apply]
  exact congrArg₂ (fun a b => ((A.o a b : ℝ) : EReal)) (row_eq r h k _) (col_eq r h k _)

theorem v2_at (h : Fin 4) (k : Fin 128) : Read.val_main_v2 (F := Ideal) (W A) (ix2 h k) = ((A.w 0 (feat h k) : ℝ) : EReal) := by
  rw [Read.val_main_v2_apply]
  have e : (⟨(h.val * 128 + k.val) % 512, by omega⟩ : Fin 512) = feat h k := by ext; show (h.val * 128 + k.val) % 512 = h.val * 128 + k.val; omega
  exact congrArg₂ (fun a b => ((A.w a b : ℝ) : EReal)) (Subsingleton.elim (α := Fin 1) _ _) e

theorem v10_at (r : Fin 4096) (h : Fin 4) (o : Fin 1) : Read.val_main_v10 (F := Ideal) (O A) (ix3 r h o)
    = (((Real.sqrt (square (A.o r) h))⁻¹ : ℝ) : EReal) := by
  pointwise [Read.val_main_v10, Read.val_main_v9, Read.val_main_v8, Read.val_main_cst_1, Read.val_main_v7, Read.val_main_v6, Read.val_main_cst_0,
    Read.val_main_v5, Read.val_main_v4, Read.val_main_cst, Read.val_main_v3, v1_at]
  simp only [bits_width, bits_small, bits_one, zero_add, r_zero, r_add, r_mul, r_sub, r_neg, r_exp, r_logistic, r_divW, r_sum]
  exact r_rsqrt (square_pos (A.o r) h)

theorem v15_at (r : Fin 4096) (h : Fin 4) (k : Fin 128) : Read.val_main_v15 (F := Ideal) (W A) (O A) (ix3 r h k)
    = ((A.o r (feat h k) * (Real.sqrt (square (A.o r) h))⁻¹ * A.w 0 (feat h k) : ℝ) : EReal) := by
  pointwise [Read.val_main_v15, Read.val_main_v14, Read.val_main_v13, Read.val_main_v12, Read.val_main_v11, v1_at, v2_at, v10_at]
  simp only [r_mul]

theorem v21_at (r : Fin 4096) (h : Fin 4) (k : Fin 128) : Read.val_main_v21 (F := Ideal) (D A) (ix3 r h k)
    = ((A.d r ⟨(feat h k).val, by omega⟩ : ℝ) : EReal) := by
  rw [Read.val_main_v21_apply, Read.val_main_v20_apply]
  have e : (⟨((r.val * 4 + h.val) * 128 + k.val) % 512, by omega⟩ : Fin 1024) = ⟨(feat h k).val, by omega⟩ := by
    ext; show ((r.val * 4 + h.val) * 128 + k.val) % 512 = h.val * 128 + k.val; omega
  exact congrArg₂ (fun a b => ((A.d a b : ℝ) : EReal)) (row_eq r h k _) e

theorem v23_at (r : Fin 4096) (p : Fin 512) : Read.val_main_v23 (F := Ideal) (W A) (O A) (D A) (ix2 r p)
    = ((A.o r p * (Real.sqrt (square (A.o r) (head p)))⁻¹ * A.w 0 p * A.d r ⟨p.val, by omega⟩ : ℝ) : EReal) := by
  rw [Read.val_main_v23_apply]
  have e : Read.idx_main_v23 (ix2 r p) = ix3 r (head p) (⟨(r.val * 512 + p.val) % 128, by omega⟩ : Fin 128) := by
    funext a
    fin_cases a
    · exact row'_eq r p _
    · exact head_eq r p _
    · rfl
  rw [e]
  pointwise [Read.val_main_v22, v15_at, v21_at]
  simp only [r_mul, lane_eq]

theorem v0_at (r : Fin 4096) (p : Fin 512) : Read.val_main_v0 (F := Ideal) (Z A) (ix2 r p) = ((A.z r ⟨1536 + p.val, by omega⟩ : ℝ) : EReal) := by
  rw [Read.val_main_v0_apply]
  rfl

theorem v25_at (r : Fin 4096) (p : Fin 512) : Read.val_main_v25 (F := Ideal) (Z A) (W A) (O A) (D A) (ix2 r p) = ((Gate.tok A r p : ℝ) : EReal) := by
  pointwise [Read.val_main_v25, Read.val_main_v24, Read.val_main_call1_v2, Read.val_main_call1_v1, Read.val_main_call1_v0, Read.val_main_v16_1,
    Read.val_main_v16_2, Read.val_main_call0_v7, Read.val_main_call0_v6, Read.val_main_call0_cst_1, Read.val_main_call0_v4, Read.val_main_call0_cst_0,
    Read.val_main_call0_v3, Read.val_main_call0_v2, Read.val_main_call0_cst, Read.val_main_call0_v1, Read.val_main_call0_v0, v0_at, v23_at]
  have h1 : (1 : EReal) = ((1 : ℝ) : EReal) := rfl
  simp only [bits_width, bits_small, bits_one, h1, r_add, r_mul, r_sub, r_neg, r_exp, r_logistic, r_divW]
  congr 1
  unfold Gate.tok grad Gate.logistic
  ring

/-- The reference's gradient is the gate's. -/
theorem val : Read.val_main_v25 (F := Ideal) (Z A) (W A) (O A) (D A) = Y A := by
  funext i
  idx_vars i
  exact v25_at A i0 i1

end Cert.Reference6Ideal.Val

end
-- ==== Proof.Hgrn6.lean ====
module

public import proofs.«01_k».proof.Defs
public import proofs.«01_k».proof.Proof.Gate6
public import proofs.«01_k».proof.Proof.Gen.Kernel6Ideal.Skeleton
public import Idealize.ShloMosaic.Lib.Pointwise
public import Idealize.ShloMosaic.Lib.IdealHost
public import Idealize.ShloMosaic.Lib.Pipeline.ValueKit

/-! The kernel's store of the gate's gradient, one head at a time, as the real function of `Gate6`. -/

@[expose] public section

set_option maxRecDepth 16384

noncomputable section

namespace Cert.Kernel6Ideal.Val

open Idealize.ShloMosaic Idealize.ShloMosaic.TcCoe Idealize.SL.Sem Cert.Kernel6Ideal Cert.Kernel6Ideal.Gen Cert.Spec Cert.Gate

/-- The columns of one head, of a tile's reals and of the weight's. -/
def Th (h : Fin 4) (f : Fin 512 → Fin 512 → ℝ) (i : S512x128.Idx) : EReal := ((f (i 0) (feat h (i 1)) : ℝ) : EReal)
def Tw (h : Fin 4) (w : Fin 512 → ℝ) (i : S1x128.Idx) : EReal := ((w (feat h (i 1)) : ℝ) : EReal)
/-- A tile's reals and the weight's. -/
def Tile (f : Fin 512 → Fin 512 → ℝ) (i : S512x512.Idx) : EReal := ((f (i 0) (i 1) : ℝ) : EReal)
def Row (w : Fin 512 → ℝ) (i : S1x512.Idx) : EReal := ((w (i 1) : ℝ) : EReal)

theorem Th_at (h : Fin 4) (f : Fin 512 → Fin 512 → ℝ) (r : Fin 512) (k : Fin 128) : Th h f (ix2 r k) = ((f r (feat h k) : ℝ) : EReal) := rfl
theorem Tw_at (h : Fin 4) (w : Fin 512 → ℝ) (z : Fin 1) (k : Fin 128) : Tw h w (ix2 z k) = ((w (feat h k) : ℝ) : EReal) := rfl

theorem head_feat (h : Fin 4) (k : Fin 128) : head (feat h k) = h := by
  ext; show (h.val * 128 + k.val) / 128 = h.val; omega

variable (h : Fin 4) (w : Fin 512 → ℝ) (o g d : Fin 512 → Fin 512 → ℝ)

/-- The gate's activation, and the head's normalising factor. -/
theorem act (r : Fin 512) (k : Fin 128) : k0_pay9 (F := Ideal) (Th h g) (ix2 r k) = ((Gate.logistic (g r (feat h k)) : ℝ) : EReal) := by
  unfold k0_pay9
  pointwise [Th_at]
  have h1 : (1 : EReal) = ((1 : ℝ) : EReal) := rfl
  simp only [bits_one, h1, zero_sub, r_neg, r_exp, r_add, r_logistic]
  rfl

theorem nrm (r : Fin 512) (k : Fin 128) : k0_pay10 (F := Ideal) (Th h o) (ix2 r k) = (((Real.sqrt (square (o r) h))⁻¹ : ℝ) : EReal) := by
  unfold k0_pay10 k0_pay8
  pointwise [Th_at]
  simp only [bits_width, bits_small, zero_add, r_mul, r_sum, r_divW, r_add]
  exact r_rsqrt (square_pos (o r) h)

/-- A head's store. -/
def store : S512x128.Idx → EReal :=
  k0_pay11 (F := Ideal) (Tw h w) (Th h o) (Th h g) (Th h d) (k0_pay9 (F := Ideal) (Th h g)) (k0_pay10 (F := Ideal) (Th h o))

theorem store_at (r : Fin 512) (k : Fin 128) : store h w o g d (ix2 r k) = ((grad (o r) w (d r) (g r) (feat h k) : ℝ) : EReal) := by
  unfold store k0_pay11
  pointwise [act, nrm, Th_at, Tw_at]
  have h1 : (1 : EReal) = ((1 : ℝ) : EReal) := rfl
  simp only [bits_one, h1, r_sub, r_add, r_mul]
  unfold grad
  rw [head_feat]

/-- A tile of the gradient. -/
def out : S512x512.Idx → EReal := Tile fun r p => grad (o r) w (d r) (g r) p

theorem ld_0 (f : Fin 512 → Fin 512 → ℝ) : @View.ld (Elt Ideal) S512x512 .f32 (Tile f) (Rect.unit ![0, 0] ![512, 128] inb_S512x512_S512x128_0_0) = Th 0 f := by
  funext i; idx_vars i
  pointwise []
  refine congrArg (fun k => ((f i0 k : ℝ) : EReal)) (Fin.ext ?_)
  show i1.val = 0 * 128 + i1.val
  omega

theorem ld_1 (f : Fin 512 → Fin 512 → ℝ) : @View.ld (Elt Ideal) S512x512 .f32 (Tile f) (Rect.unit ![0, 128] ![512, 128] inb_S512x512_S512x128_0_128) = Th 1 f := by
  funext i; idx_vars i
  pointwise []
  refine congrArg (fun k => ((f i0 k : ℝ) : EReal)) (Fin.ext ?_)
  show 128 + i1.val = 1 * 128 + i1.val
  omega

theorem ld_2 (f : Fin 512 → Fin 512 → ℝ) : @View.ld (Elt Ideal) S512x512 .f32 (Tile f) (Rect.unit ![0, 256] ![512, 128] inb_S512x512_S512x128_0_256) = Th 2 f := by
  funext i; idx_vars i
  pointwise []
  refine congrArg (fun k => ((f i0 k : ℝ) : EReal)) (Fin.ext ?_)
  show 256 + i1.val = 2 * 128 + i1.val
  omega

theorem ld_3 (f : Fin 512 → Fin 512 → ℝ) : @View.ld (Elt Ideal) S512x512 .f32 (Tile f) (Rect.unit ![0, 384] ![512, 128] inb_S512x512_S512x128_0_384) = Th 3 f := by
  funext i; idx_vars i
  pointwise []
  refine congrArg (fun k => ((f i0 k : ℝ) : EReal)) (Fin.ext ?_)
  show 384 + i1.val = 3 * 128 + i1.val
  omega

theorem lw_0 : @View.ld (Elt Ideal) S1x512 .f32 (Row w) (Rect.unit ![0, 0] ![1, 128] inb_S1x512_S1x128_0_0) = Tw 0 w := by
  funext i; idx_vars i
  pointwise []
  refine congrArg (fun k => ((w k : ℝ) : EReal)) (Fin.ext ?_)
  show i1.val = 0 * 128 + i1.val
  omega

theorem lw_1 : @View.ld (Elt Ideal) S1x512 .f32 (Row w) (Rect.unit ![0, 128] ![1, 128] inb_S1x512_S1x128_0_128) = Tw 1 w := by
  funext i; idx_vars i
  pointwise []
  refine congrArg (fun k => ((w k : ℝ) : EReal)) (Fin.ext ?_)
  show 128 + i1.val = 1 * 128 + i1.val
  omega

theorem lw_2 : @View.ld (Elt Ideal) S1x512 .f32 (Row w) (Rect.unit ![0, 256] ![1, 128] inb_S1x512_S1x128_0_256) = Tw 2 w := by
  funext i; idx_vars i
  pointwise []
  refine congrArg (fun k => ((w k : ℝ) : EReal)) (Fin.ext ?_)
  show 256 + i1.val = 2 * 128 + i1.val
  omega

theorem lw_3 : @View.ld (Elt Ideal) S1x512 .f32 (Row w) (Rect.unit ![0, 384] ![1, 128] inb_S1x512_S1x128_0_384) = Tw 3 w := by
  funext i; idx_vars i
  pointwise []
  refine congrArg (fun k => ((w k : ℝ) : EReal)) (Fin.ext ?_)
  show 384 + i1.val = 3 * 128 + i1.val
  omega

/-- The four heads' stores are one function of their columns. -/
theorem store_1 : k0_pay46 (F := Ideal) (Tw h w) (Th h o) (Th h g) (Th h d) (k0_pay44 (F := Ideal) (Th h g)) (k0_pay45 (F := Ideal) (Th h o)) = store h w o g d := rfl
theorem store_2 : k0_pay81 (F := Ideal) (Tw h w) (Th h o) (Th h g) (Th h d) (k0_pay79 (F := Ideal) (Th h g)) (k0_pay80 (F := Ideal) (Th h o)) = store h w o g d := rfl
theorem store_3 : k0_pay116 (F := Ideal) (Tw h w) (Th h o) (Th h g) (Th h d) (k0_pay114 (F := Ideal) (Th h g)) (k0_pay115 (F := Ideal) (Th h o)) = store h w o g d := rfl

end Cert.Kernel6Ideal.Val

end
-- ==== Proof.Out6.lean ====
module

public import proofs.«01_k».proof.Proof.Hgrn6
public import proofs.«01_k».proof.Proof.Gen.Kernel6Ideal.Frame

/-! What a point of the kernel leaves of the gate's gradient in its buffer. -/

@[expose] public section

set_option maxRecDepth 16384

noncomputable section

namespace Cert.Kernel6Ideal.Val

open Idealize.ShloMosaic Idealize.ShloMosaic.TcCoe Idealize.SL.Sem Cert.Kernel6Ideal Cert.Kernel6Ideal.Gen Cert.Spec Cert.Gate

variable (w : Fin 512 → ℝ) (o g d : Fin 512 → Fin 512 → ℝ)

/-- The four heads' pieces. -/
def pieces : List (View.Piece (Elt Ideal) S512x512 .bf16) :=
  [⟨Rect.unit ![0, 384] ![512, 128] inb_S512x512_S512x128_0_384, store 3 w o g d⟩, ⟨Rect.unit ![0, 256] ![512, 128] inb_S512x512_S512x128_0_256, store 2 w o g d⟩,
    ⟨Rect.unit ![0, 128] ![512, 128] inb_S512x512_S512x128_0_128, store 1 w o g d⟩, ⟨Rect.unit ![0, 0] ![512, 128] inb_S512x512_S512x128_0_0, store 0 w o g d⟩]

theorem col (h : Fin 4) (x : S512x128.Idx) (y : S512x512.Idx) (h0 : (y 0).val = (x 0).val) (h1 : (y 1).val = h.val * 128 + (x 1).val) :
    store h w o g d x = out w o g d y := by
  have ex : x = ix2 (x 0 : Fin 512) (x 1 : Fin 128) := by funext a; fin_cases a <;> rfl
  have ey : y = ix2 (x 0 : Fin 512) (feat h (x 1)) := by
    funext a
    fin_cases a
    · exact Fin.ext h0
    · exact Fin.ext h1
  rw [ey]
  exact (congrArg (store h w o g d) ex).trans (store_at h w o g d (x 0) (x 1))

/-- Each holds its columns of the gradient. -/
theorem good : ∀ p ∈ pieces w o g d, ∀ x : p.1.shape.Idx, p.2 x = out w o g d (p.1.emb x) := by
  intro p hp x
  simp only [pieces, List.mem_cons, List.mem_nil_iff, or_false] at hp
  rcases hp with rfl | rfl | rfl | rfl
  · exact col w o g d 3 x _ (by show 0 + 1 * (x 0).val = (x 0).val; omega) (by show 384 + 1 * (x 1).val = 3 * 128 + (x 1).val; omega)
  · exact col w o g d 2 x _ (by show 0 + 1 * (x 0).val = (x 0).val; omega) (by show 256 + 1 * (x 1).val = 2 * 128 + (x 1).val; omega)
  · exact col w o g d 1 x _ (by show 0 + 1 * (x 0).val = (x 0).val; omega) (by show 128 + 1 * (x 1).val = 1 * 128 + (x 1).val; omega)
  · exact col w o g d 0 x _ (by show 0 + 1 * (x 0).val = (x 0).val; omega) (by show 0 + 1 * (x 1).val = 0 * 128 + (x 1).val; omega)

/-- What a point leaves of the gate's gradient, the first point. -/
theorem out_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x8x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S8x512 .f32) (harg15 : arg15.IsWhole) (arg16 : Memref sig .tc .vmem S4x128x128 .f32) (harg16 : arg16.IsWhole) (hc0 : cond0_0 i)
    (x0 x1 x2 : Vec Ideal S512x512 .f32) (x4 : Vec Ideal S2x512 .f32) (x8 : Vec Ideal S4x8x128x128 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8 = out w o g d := by
  funext y
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8)]
  refine View.canon_apply_of_pieces (out w o g d) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8 y)
  unfold kernelRun0_A
  dsimp only
  sl_unfold_words
  simp only [View.readAt_eq_ld, harg5.read_unread, harg7.read_unread, harg8.read_unread, harg9.read_unread, ld_0, ld_1, ld_2, ld_3, lw_0, lw_1, lw_2, lw_3, store_1, store_2, store_3]
  exact good w o g d

/-- What a point leaves of the gate's gradient, a later one. -/
theorem out_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x8x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S8x512 .f32) (harg15 : arg15.IsWhole) (arg16 : Memref sig .tc .vmem S4x128x128 .f32) (harg16 : arg16.IsWhole) (hc0 : ¬cond0_0 i)
    (x0 x1 x2 : Vec Ideal S512x512 .f32) (x4 : Vec Ideal S2x512 .f32) (x8 : Vec Ideal S4x8x128x128 .f32) (xo13 : Vec Ideal S8x512 .f32) (xs0 : Vec Ideal S4x128x128 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8 xo13 xs0 = out w o g d := by
  funext y
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8 xo13 xs0)]
  refine View.canon_apply_of_pieces (out w o g d) _ ?_ y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 (Tile g) x4 (Row w) (Tile o) (Tile d) x8 xo13 xs0 y)
  unfold kernelRun0_B
  dsimp only
  sl_unfold_words
  simp only [View.readAt_eq_ld, harg5.read_unread, harg7.read_unread, harg8.read_unread, harg9.read_unread, ld_0, ld_1, ld_2, ld_3, lw_0, lw_1, lw_2, lw_3, store_1, store_2, store_3]
  exact good w o g d

end Cert.Kernel6Ideal.Val

end
-- ==== Proof.Scan6.lean ====
module

public import proofs.«01_k».proof.Proof.Out6
public import proofs.«01_k».proof.Proof.Fin
public import proofs.«01_k».proof.Proof.Gen.Kernel6
public import proofs.«01_k».proof.Proof.Gen.Kernel6Ideal.Value
public import proofs.«01_k».proof.Proof.Gen.Reference6Ideal.Run
public import proofs.«01_k».proof.Proof.Gen.Pre_finite6

/-! The backward pass of the recurrence's kernel: its frame, and the gate's gradient that it leaves. -/

@[expose] public section

set_option maxRecDepth 16384

noncomputable section

namespace Cert.Kernel6Ideal.Val

open Idealize.ShloMosaic Idealize.ShloMosaic.TcCoe Idealize.SL.Sem Cert.Kernel6Ideal Cert.Kernel6Ideal.Gen Cert.Spec Cert.Gate

/-- The block of each window at a point: the points go backwards through the tokens. -/
theorem idx : ∀ t : Fin cfg0.N, win0_3.index t = ![7 - t.val, 3] ∧ win0_5.index t = ![0, 0] ∧ win0_6.index t = ![7 - t.val, 0]
    ∧ win0_7.index t = ![7 - t.val, 0] ∧ win0_12.index t = ![7 - t.val, 0] :=
  (by decide +kernel : ∀ t : Fin grid0.N, _)

theorem tN (t : Fin cfg0.N) : t.val < 8 := Nat.lt_of_lt_of_eq t.isLt N_0

/-- Token `r` of a point's tile. -/
def row (t : Fin cfg0.N) (r : Fin 512) : Fin 4096 := ⟨(7 - t.val) * 512 + r.val, by omega⟩

variable (m : (ℓ : Loc nD τ sig) → Buf (Elt Ideal) ℓ) (c : Dev nD) (t : Fin cfg0.N)

theorem blk3 (r p : Fin 512) : iblk m c 3 t (ix2 r p) = m (c, Proc.tc.devRef main_arg0) (ix2 (row t r) (⟨1536 + p.val, by omega⟩ : Fin 2048)) := by
  unfold iblk
  rw [View.read_apply]
  show V m c main_arg0 _ = _
  rw [V_main_arg0]
  refine congrArg _ ?_
  unfold row
  blk_ext [idx t]

theorem blk5 (z : Fin 1) (p : Fin 512) : iblk m c 5 t (ix2 z p) = m (c, Proc.tc.devRef main_arg2) (ix2 z p) := by
  unfold iblk
  rw [View.read_apply]
  show V m c main_arg2 _ = _
  rw [V_main_arg2]
  refine congrArg _ ?_
  blk_ext [idx t]

theorem blk6 (r p : Fin 512) : iblk m c 6 t (ix2 r p) = m (c, Proc.tc.devRef main_arg3) (ix2 (row t r) p) := by
  unfold iblk
  rw [View.read_apply]
  show V m c main_arg3 _ = _
  rw [V_main_arg3]
  refine congrArg _ ?_
  unfold row
  blk_ext [idx t]

theorem blk7 (r p : Fin 512) : iblk m c 7 t (ix2 r p) = m (c, Proc.tc.devRef main_arg4) (ix2 (row t r) (⟨p.val, by omega⟩ : Fin 1024)) := by
  unfold iblk
  rw [View.read_apply]
  show V m c main_arg4 _ = _
  rw [V_main_arg4]
  refine congrArg _ ?_
  unfold row
  blk_ext [idx t]

/-- The arguments that the gate's gradient reads are the reals of `A`. -/
structure Args (A : Arg) : Prop where
  a0 : m (c, Proc.tc.devRef main_arg0) = Z A
  a2 : m (c, Proc.tc.devRef main_arg2) = W A
  a3 : m (c, Proc.tc.devRef main_arg3) = O A
  a4 : m (c, Proc.tc.devRef main_arg4) = D A

variable {m c} {A : Arg} (h : Args m c A)
include h

theorem ib3 : iblk m c 3 t = Tile fun r p => A.z (row t r) ⟨1536 + p.val, by omega⟩ := by
  funext y; idx_vars y
  rw [blk3, h.a0]
  rfl

theorem ib5 : iblk m c 5 t = Row (A.w 0) := by
  funext y; idx_vars y
  obtain rfl : y0 = 0 := Subsingleton.elim _ _
  rw [blk5, h.a2]
  rfl

theorem ib6 : iblk m c 6 t = Tile fun r p => A.o (row t r) p := by
  funext y; idx_vars y
  rw [blk6, h.a3]
  rfl

theorem ib7 : iblk m c 7 t = Tile fun r p => A.d (row t r) ⟨p.val, by omega⟩ := by
  funext y; idx_vars y
  rw [blk7, h.a4]
  rfl

/-- What a point leaves of the gate's gradient. -/
theorem left : (outsAt0 m c t.val t.isLt).2.2.2.1
    = out (A.w 0) (fun r p => A.o (row t r) p) (fun r p => A.z (row t r) ⟨1536 + p.val, by omega⟩) (fun r p => A.d (row t r) ⟨p.val, by omega⟩) := by
  by_cases h0 : t.val % 8 = 0
  · rw [outsAt0_A m c t h0]
    dsimp only
    rw [ib3 t h, ib5 t h, ib6 t h, ib7 t h]
    exact out_A ..
  · rw [outsAt0_B m c t h0]
    dsimp only
    rw [ib3 t h, ib5 t h, ib6 t h, ib7 t h]
    exact out_B ..

theorem arr12 : (dats m 0 c).arrAt 12 cfg0.N = Y A := by
  refine (dats m 0 c).arrAt_eq_of_covers 12 _ (by decide +kernel) fun t _ y => ?_
  blk_simp
  rw [after0_12, left t h]
  show Y A (ix2 (row t (y 0 : Fin 512)) (y 1 : Fin 512)) = _
  refine congrArg (Y A) ?_
  unfold row
  blk_ext [idx t]

end Cert.Kernel6Ideal.Val

namespace Cert.Kernel6Ideal.Val

open Idealize.ShloMosaic Idealize.ShloMosaic.TcCoe Idealize.SL.Sem Cert.Kernel6Ideal Cert.Spec Cert.Gate

variable (m : (ℓ : Loc nD τ sig) → Buf (Elt Ideal) ℓ) (c : Dev nD)

/-- The reals of device `c`'s arguments. -/
def inp : Arg where
  z := fun i j => EReal.toReal ((m (c, Proc.tc.devRef main_arg0) : S4096x2048.Idx → EReal) (ix2 i j))
  w := fun i j => EReal.toReal ((m (c, Proc.tc.devRef main_arg2) : S1x512.Idx → EReal) (ix2 i j))
  o := fun i j => EReal.toReal ((m (c, Proc.tc.devRef main_arg3) : S4096x512.Idx → EReal) (ix2 i j))
  d := fun i j => EReal.toReal ((m (c, Proc.tc.devRef main_arg4) : S4096x1024.Idx → EReal) (ix2 i j))

/-- Finite arguments are those reals. -/
theorem args_of_finite [Cert.Pre_finite6.Facts] (h : Cert.Pre_Kernel6Ideal_finite6 m) : Args m c (inp m c) := by
  obtain ⟨h0, h2, h3, h4⟩ := h c
  constructor
  · funext i
    idx_vars i
    exact Cert.KernelIdeal.Val.real_of (m (c, Proc.tc.devRef main_arg0)) _ h0 i0 i1
  · funext i
    idx_vars i
    exact Cert.KernelIdeal.Val.real_of (m (c, Proc.tc.devRef main_arg2)) _ h2 i0 i1
  · funext i
    idx_vars i
    exact Cert.KernelIdeal.Val.real_of (m (c, Proc.tc.devRef main_arg3)) _ h3 i0 i1
  · funext i
    idx_vars i
    exact Cert.KernelIdeal.Val.real_of (m (c, Proc.tc.devRef main_arg4)) _ h4 i0 i1

end Cert.Kernel6Ideal.Val

namespace Cert.Proof

open Idealize.ShloMosaic Idealize.SL.Sem

section
open Cert.Kernel6Ideal

/-- The frame of the ideal reading's text over the machine's own floats. -/
def FrameBits6 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frameBits6_eq : Cert.quiescent_Kernel6 = FrameBits6 := by sl_kernel_rfl

end

theorem frame_kernel6 : Cert.quiescent_Kernel6 :=
  frameBits6_eq.mpr fun m ρ _ => Cert.Kernel6Ideal.Gen.frame (F := Bits) m ρ

theorem frame_ideal6 : Cert.quiescent_Kernel6Ideal := fun m ρ _ => Cert.Kernel6Ideal.Gen.frame m ρ

theorem frame_ideal_finite6 : Cert.quiescent_Kernel6Ideal_pre_finite6 := fun m ρ _ => Cert.Kernel6Ideal.Gen.frame m ρ

theorem frame_reference6 : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

theorem frame_reference_finite6 : Cert.quiescent_Reference6Ideal_pre_finite6 := fun m ρ _ => frame_reference6 m ρ trivial

open Cert.Kernel6Ideal.Val in
/-- The kernel ends with the reference's gradient of the gate. -/
theorem algebraic6 : Cert.algebraic_Kernel6Ideal_Reference6Ideal_pre_finite6 := by
  intro m g m' g' hpre hag
  refine ⟨fun c => Cert.Gate.Y (inp m c), ?_, ?_⟩
  · refine (θ_run _ _ _).mono (fun r h c => ?_) (Cert.Kernel6Ideal.Value.run_blocks m g)
    obtain ⟨-, -, -, h3, -, hr⟩ := h c
    exact ⟨h3.trans (arr12 (args_of_finite m c hpre)), hr⟩
  · refine (θ_run _ _ _).mono (fun r h c => ?_) (Cert.Reference6Ideal.Value.run m' g')
    have A := args_of_finite m c hpre
    obtain ⟨e0, -, e2, e3, e4, -⟩ := hag c
    obtain ⟨h0, hr⟩ := h c
    rw [e0.trans A.a0, e2.trans A.a2, e3.trans A.a3, e4.trans A.a4] at h0
    exact ⟨h0.trans ((Cert.Reference6Ideal.Read.val_main_v25_eq (F := Ideal) _ _ _ _).trans (Cert.Reference6Ideal.Val.val (inp m c))), hr⟩

end Cert.Proof

end
-- ==== Proof.Grad7.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Pointwise
public import Idealize.ShloMosaic.Lib.IdealHost
public import Idealize.ShloMosaic.Lib.Pipeline.ValueKit

/-! The gradient of the MLP's second weight: the kernel's row blocks and the reference's one product are the same sums
    over the tokens. -/

@[expose] public section

set_option maxRecDepth 16384

noncomputable section

namespace Cert.Kernel7Ideal.Val

open Idealize.ShloMosaic Idealize.ShloMosaic.TcCoe Idealize.SL.Sem Cert.Kernel7Ideal Cert.Kernel7Ideal.Gen

/-- Entry `(n, k, j)` of the gradient: the sum over the tokens of hidden entry `1024 n + k` by entry `j` of the output's
    gradient. -/
def entry (A : S4096x4096.Idx → EReal) (D : S4096x1024.Idx → EReal) (n : Fin 4) (k : Fin 1024) (j : Fin 1024) : EReal :=
  ∑ t : Fin 4096, A (ix2 t (⟨n.val * 1024 + k.val, by omega⟩ : Fin 4096)) * D (ix2 t j)

def grad (A : S4096x4096.Idx → EReal) (D : S4096x1024.Idx → EReal) (i : S4x1024x1024.Idx) : EReal :=
  entry A D (i 0) (i 1) (i 2)

/-- The body's two stores, as a value. -/
theorem pay (a : Vec Ideal S4096x1024 .bf16) (b : Vec Ideal S4096x1024 .bf16) (z : Fin 1) (k : Fin 1024) (j : Fin 1024) :
    k0_pay2 (k0_pay1 (F := Ideal)) a b (ix3 z k j) = ∑ t : Fin 4096, a (ix2 t k) * b (ix2 t j) := by
  unfold k0_pay2 k0_pay1
  pointwise

/-- What a point leaves in the output's buffer. -/
theorem left (c : Dev nD) (i : grid0.Coords) (a2 : Memref sig .tc .vmem S4096x1024 .bf16) (h2 : a2.IsWhole)
    (a3 : Memref sig .tc .vmem S4096x1024 .bf16) (h3 : a3.IsWhole) (a4 : Memref sig .tc .vmem S1x1024x1024 .f32) (h4 : a4.IsWhole)
    (hc : cond0_0 i) (x0 : Vec Ideal S4096x1024 .bf16) (x1 : Vec Ideal S4096x1024 .bf16) :
    out0_A_2 c i a2 h2 a3 h3 a4 h4 hc x0 x1 = k0_pay2 (k0_pay1 (F := Ideal)) x0 x1 := by
  have z2 : (![0, 0] : Fin 2 → Nat) = fun _ => 0 := funext fun a => by fin_cases a <;> rfl
  have z3 : (![0, 0, 0] : Fin 3 → Nat) = fun _ => 0 := funext fun a => by fin_cases a <;> rfl
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024x1024) z3, View.readCov_unit_zero (S := S1x1024x1024) _ z3]
  simp only [View.readAt_eq_ld, h2.read_unread, h3.read_unread, View.ld_unit_zero (S := S4096x1024) z2]

/-- The block of each window at a point. -/
theorem idx : ∀ t : Fin cfg0.N, win0_0.index t = ![0, t.val] ∧ win0_1.index t = ![0, 0] ∧ win0_2.index t = ![t.val, 0, 0] :=
  (by decide +kernel : ∀ t : Fin grid0.N, _)

theorem tN (t : Fin cfg0.N) : t.val < 4 := Nat.lt_of_lt_of_eq t.isLt N_0

variable (m : (ℓ : Loc nD τ sig) → Buf (Elt Ideal) ℓ) (c : Dev nD) (t : Fin cfg0.N)

theorem blk0 (r : Fin 4096) (k : Fin 1024) : iblk m c 0 t (ix2 r k)
    = m (c, Proc.tc.devRef main_arg0) (ix2 r (⟨t.val * 1024 + k.val, by have := tN t; omega⟩ : Fin 4096)) := by
  unfold iblk
  rw [View.read_apply]
  show V m c main_arg0 _ = _
  rw [V_main_arg0]
  refine congrArg _ ?_
  blk_ext [idx t]

theorem blk1 (r : Fin 4096) (j : Fin 1024) : iblk m c 1 t (ix2 r j) = m (c, Proc.tc.devRef main_arg1) (ix2 r j) := by
  unfold iblk
  rw [View.read_apply]
  show V m c main_arg1 _ = _
  rw [V_main_arg1]
  refine congrArg _ ?_
  blk_ext [idx t]

/-- A point's block is its row block of the gradient. -/
theorem tile : k0_pay2 (k0_pay1 (F := Ideal)) (iblk m c 0 t) (iblk m c 1 t) = fun y : S1x1024x1024.Idx =>
    grad (m (c, Proc.tc.devRef main_arg0)) (m (c, Proc.tc.devRef main_arg1)) (ix3 (⟨t.val, tN t⟩ : Fin 4) (y 1 : Fin 1024) (y 2 : Fin 1024)) := by
  funext y; idx_vars y
  rw [pay]
  simp only [blk0, blk1]
  rfl

theorem arr : (dats m 0 c).arrAt 2 cfg0.N = grad (m (c, Proc.tc.devRef main_arg0)) (m (c, Proc.tc.devRef main_arg1)) := by
  refine (dats m 0 c).arrAt_eq_of_covers 2 _ (by decide +kernel) fun t _ y => ?_
  blk_simp
  rw [after0_2]
  have e : outsAt0 m c t = k0_pay2 (k0_pay1 (F := Ideal)) (iblk m c 0 t) (iblk m c 1 t) := left ..
  rw [e, tile]
  show grad _ _ (ix3 (⟨t.val, tN t⟩ : Fin 4) (y 1 : Fin 1024) (y 2 : Fin 1024) : S4x1024x1024.Idx) = _
  refine congrArg (grad _ _) ?_
  blk_ext [idx t]

end Cert.Kernel7Ideal.Val

namespace Cert.Reference7Ideal.Val

open Idealize.ShloMosaic Cert.Reference7Ideal Cert.Reference7Ideal.Gen

theorem result (A : S4096x4096.Idx → EReal) (D : S4096x1024.Idx → EReal) :
    shapeCast _ (transpose S4096x1024 [1, 0] (Host.dotGeneral (F := Ideal) (φ₁ := .f32) (φ₂ := .f32) dot_S4096x1024_S4096x4096_S1024x4096_0_0_1_1_n_n none (extf (φ := .bf16) (F := Ideal) .f32 D bitsLt_bf16_f32) (extf (φ := .bf16) .f32 A bitsLt_bf16_f32)) transposes_S1024x4096_S4096x1024_1_0) shapeCasts_S4096x1024_S4x1024x1024
      = Cert.Kernel7Ideal.Val.grad A D := by
  funext i; idx_vars i
  pointwise
  exact Finset.sum_congr rfl fun _ _ => mul_comm _ _

end Cert.Reference7Ideal.Val

namespace Cert.Proof

open Idealize.ShloMosaic Idealize.SL.Sem

section
open Cert.Kernel7Ideal

/-- The frame of the ideal reading's text over the machine's own floats. -/
def FrameBits7 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameBits7_eq : Cert.quiescent_Kernel7 = FrameBits7 := by sl_kernel_rfl

end

theorem frame_kernel7 : Cert.quiescent_Kernel7 :=
  frameBits7_eq.mpr fun m ρ _ => Cert.Kernel7Ideal.Gen.frame (F := Bits) m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

/-- The kernel ends with the reference's gradient of the MLP's second weight. -/
theorem algebraic7 : Cert.algebraic_Kernel7Ideal_Reference7Ideal := by
  intro m g m' g' _ hag
  refine ⟨fun c => Cert.Kernel7Ideal.Val.grad (m (c, Proc.tc.devRef Cert.Kernel7Ideal.main_arg0)) (m (c, Proc.tc.devRef Cert.Kernel7Ideal.main_arg1)), ?_, ?_⟩
  · refine (θ_run _ _ _).mono (fun r h c => ?_) (Cert.Kernel7Ideal.Value.run_blocks m g)
    obtain ⟨h1, h2⟩ := h c
    exact ⟨h1.trans (Cert.Kernel7Ideal.Val.arr m c), h2⟩
  · refine (θ_run _ _ _).mono (fun r h c => ?_) (Cert.Reference7Ideal.Value.run m' g')
    obtain ⟨h1, h2⟩ := h c
    obtain ⟨e0, e1⟩ := hag c
    refine ⟨h1.trans ?_, h2⟩
    rw [e0, e1]
    exact Cert.Reference7Ideal.Val.result _ _

end Cert.Proof

end
-- ==== Proof.Grad8.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Pointwise
public import Idealize.ShloMosaic.Lib.IdealHost
public import Idealize.ShloMosaic.Lib.Pipeline.ValueKit

/-! The gradient of the input projection, transposed: the kernel's row blocks and the reference's one product are the same
    sums over the tokens. -/

@[expose] public section

set_option maxRecDepth 16384

noncomputable section

namespace Cert.Kernel8Ideal.Val

open Idealize.ShloMosaic Idealize.ShloMosaic.TcCoe Idealize.SL.Sem Cert.Kernel8Ideal Cert.Kernel8Ideal.Gen

/-- Entry `(n, k, j)` of the gradient: the sum over the tokens of entry `896 n + k` of the projection's gradient by entry
    `j` of the modulated row. -/
def entry (A : S4096x2688.Idx → EReal) (D : S4096x1024.Idx → EReal) (n : Fin 3) (k : Fin 896) (j : Fin 1024) : EReal :=
  ∑ t : Fin 4096, A (ix2 t (⟨n.val * 896 + k.val, by omega⟩ : Fin 2688)) * D (ix2 t j)

def grad (A : S4096x2688.Idx → EReal) (D : S4096x1024.Idx → EReal) (i : S3x896x1024.Idx) : EReal :=
  entry A D (i 0) (i 1) (i 2)

/-- The body's two stores, as a value. -/
theorem pay (a : Vec Ideal S4096x896 .bf16) (b : Vec Ideal S4096x1024 .bf16) (z : Fin 1) (k : Fin 896) (j : Fin 1024) :
    k0_pay2 (k0_pay1 (F := Ideal)) a b (ix3 z k j) = ∑ t : Fin 4096, a (ix2 t k) * b (ix2 t j) := by
  unfold k0_pay2 k0_pay1
  pointwise

/-- What a point leaves in the output's buffer. -/
theorem left (c : Dev nD) (i : grid0.Coords) (a2 : Memref sig .tc .vmem S4096x896 .bf16) (h2 : a2.IsWhole)
    (a3 : Memref sig .tc .vmem S4096x1024 .bf16) (h3 : a3.IsWhole) (a4 : Memref sig .tc .vmem S1x896x1024 .f32) (h4 : a4.IsWhole)
    (hc : cond0_0 i) (x0 : Vec Ideal S4096x896 .bf16) (x1 : Vec Ideal S4096x1024 .bf16) :
    out0_A_2 c i a2 h2 a3 h3 a4 h4 hc x0 x1 = k0_pay2 (k0_pay1 (F := Ideal)) x0 x1 := by
  have z2 : (![0, 0] : Fin 2 → Nat) = fun _ => 0 := funext fun a => by fin_cases a <;> rfl
  have z3 : (![0, 0, 0] : Fin 3 → Nat) = fun _ => 0 := funext fun a => by fin_cases a <;> rfl
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x896x1024) z3, View.readCov_unit_zero (S := S1x896x1024) _ z3]
  simp only [View.readAt_eq_ld, h2.read_unread, h3.read_unread, View.ld_unit_zero (S := S4096x1024) z2, View.ld_unit_zero (S := S4096x896) z2]

/-- The block of each window at a point. -/
theorem idx : ∀ t : Fin cfg0.N, win0_0.index t = ![0, t.val] ∧ win0_1.index t = ![0, 0] ∧ win0_2.index t = ![t.val, 0, 0] :=
  (by decide +kernel : ∀ t : Fin grid0.N, _)

theorem tN (t : Fin cfg0.N) : t.val < 3 := Nat.lt_of_lt_of_eq t.isLt N_0

variable (m : (ℓ : Loc nD τ sig) → Buf (Elt Ideal) ℓ) (c : Dev nD) (t : Fin cfg0.N)

theorem blk0 (r : Fin 4096) (k : Fin 896) : iblk m c 0 t (ix2 r k)
    = m (c, Proc.tc.devRef main_arg0) (ix2 r (⟨t.val * 896 + k.val, by have := tN t; omega⟩ : Fin 2688)) := by
  unfold iblk
  rw [View.read_apply]
  show V m c main_arg0 _ = _
  rw [V_main_arg0]
  refine congrArg _ ?_
  blk_ext [idx t]

theorem blk1 (r : Fin 4096) (j : Fin 1024) : iblk m c 1 t (ix2 r j) = m (c, Proc.tc.devRef main_arg1) (ix2 r j) := by
  unfold iblk
  rw [View.read_apply]
  show V m c main_arg1 _ = _
  rw [V_main_arg1]
  refine congrArg _ ?_
  blk_ext [idx t]

/-- A point's block is its row block of the gradient. -/
theorem tile : k0_pay2 (k0_pay1 (F := Ideal)) (iblk m c 0 t) (iblk m c 1 t) = fun y : S1x896x1024.Idx =>
    grad (m (c, Proc.tc.devRef main_arg0)) (m (c, Proc.tc.devRef main_arg1)) (ix3 (⟨t.val, tN t⟩ : Fin 3) (y 1 : Fin 896) (y 2 : Fin 1024)) := by
  funext y; idx_vars y
  rw [pay]
  simp only [blk0, blk1]
  rfl

theorem arr : (dats m 0 c).arrAt 2 cfg0.N = grad (m (c, Proc.tc.devRef main_arg0)) (m (c, Proc.tc.devRef main_arg1)) := by
  refine (dats m 0 c).arrAt_eq_of_covers 2 _ (by decide +kernel) fun t _ y => ?_
  blk_simp
  rw [after0_2]
  have e : outsAt0 m c t = k0_pay2 (k0_pay1 (F := Ideal)) (iblk m c 0 t) (iblk m c 1 t) := left ..
  rw [e, tile]
  show grad _ _ (ix3 (⟨t.val, tN t⟩ : Fin 3) (y 1 : Fin 896) (y 2 : Fin 1024) : S3x896x1024.Idx) = _
  refine congrArg (grad _ _) ?_
  blk_ext [idx t]

end Cert.Kernel8Ideal.Val

namespace Cert.Reference8Ideal.Val

open Idealize.ShloMosaic Cert.Reference8Ideal Cert.Reference8Ideal.Gen

theorem result (A : S4096x2688.Idx → EReal) (D : S4096x1024.Idx → EReal) :
    shapeCast _ (transpose S2688x1024 [1, 0] (transpose S1024x2688 [1, 0] (Host.dotGeneral (F := Ideal) (φ₁ := .f32) (φ₂ := .f32) dot_S4096x2688_S4096x1024_S2688x1024_0_0_1_1_n_n none (extf (φ := .bf16) (F := Ideal) .f32 A bitsLt_bf16_f32) (extf (φ := .bf16) .f32 D bitsLt_bf16_f32)) transposes_S2688x1024_S1024x2688_1_0) transposes_S1024x2688_S2688x1024_1_0) shapeCasts_S2688x1024_S3x896x1024
      = Cert.Kernel8Ideal.Val.grad A D := by
  funext i; idx_vars i
  pointwise
  rfl

end Cert.Reference8Ideal.Val

namespace Cert.Proof

open Idealize.ShloMosaic Idealize.SL.Sem

section
open Cert.Kernel8Ideal

/-- The frame of the ideal reading's text over the machine's own floats. -/
def FrameBits8 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameBits8_eq : Cert.quiescent_Kernel8 = FrameBits8 := by sl_kernel_rfl

end

theorem frame_kernel8 : Cert.quiescent_Kernel8 :=
  frameBits8_eq.mpr fun m ρ _ => Cert.Kernel8Ideal.Gen.frame (F := Bits) m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

/-- The kernel ends with the reference's gradient of the input projection. -/
theorem algebraic8 : Cert.algebraic_Kernel8Ideal_Reference8Ideal := by
  intro m g m' g' _ hag
  refine ⟨fun c => Cert.Kernel8Ideal.Val.grad (m (c, Proc.tc.devRef Cert.Kernel8Ideal.main_arg0)) (m (c, Proc.tc.devRef Cert.Kernel8Ideal.main_arg1)), ?_, ?_⟩
  · refine (θ_run _ _ _).mono (fun r h c => ?_) (Cert.Kernel8Ideal.Value.run_blocks m g)
    obtain ⟨h1, h2⟩ := h c
    exact ⟨h1.trans (Cert.Kernel8Ideal.Val.arr m c), h2⟩
  · refine (θ_run _ _ _).mono (fun r h c => ?_) (Cert.Reference8Ideal.Value.run m' g')
    obtain ⟨h1, h2⟩ := h c
    obtain ⟨e0, e1⟩ := hag c
    refine ⟨h1.trans ?_, h2⟩
    rw [e0, e1]
    exact Cert.Reference8Ideal.Val.result _ _

end Cert.Proof

end
-- ==== Proof.lean ====
module

public import proofs.«01_k».proof.Proof.Frames
public import proofs.«01_k».proof.Proof.Value
public import proofs.«01_k».proof.Proof.Gen.ReferenceIdeal.Read
public import proofs.«01_k».proof.Proof.Gen.Pre_finite
public import proofs.«01_k».proof.Proof.Grad2
public import proofs.«01_k».proof.Proof.Grad3
public import proofs.«01_k».proof.Proof.Grad4
public import proofs.«01_k».proof.Proof.Adam5
public import proofs.«01_k».proof.Proof.Scan6
public import proofs.«01_k».proof.Proof.Grad7
public import proofs.«01_k».proof.Proof.Grad8

@[expose] public section

noncomputable section

namespace Cert.Proof

open Idealize.ShloMosaic Idealize.SL.Sem

theorem frame_ideal_finite : Cert.quiescent_KernelIdeal_pre_finite := fun m ρ _ => Cert.KernelIdeal.Gen.frame m ρ

theorem frame_reference_finite : Cert.quiescent_ReferenceIdeal_pre_finite := fun m ρ _ => frame_reference m ρ trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel6.Gen.facts, Cert.Kernel6Ideal.Gen.facts, Cert.Reference6Ideal.Gen.facts,
  Cert.Pre_finite.Gen.facts, Cert.Pre_finite6.Gen.facts,
  frame_kernel, frame_ideal, frame_ideal_finite, frame_reference, frame_reference_finite,
  frame_kernel2, frame_ideal2, frame_reference2, frame_kernel3, frame_ideal3, frame_reference3,
  frame_kernel4, frame_ideal4, frame_reference4, frame_kernel5, frame_ideal5, frame_reference5,
  frame_kernel7, frame_ideal7, frame_reference7, frame_kernel8, frame_ideal8, frame_reference8,
  frame_kernel6, frame_ideal6, frame_ideal_finite6, frame_reference6, frame_reference_finite6,
  trivial, algebraic, trivial, algebraic2, trivial, algebraic3, trivial, algebraic4, trivial, algebraic5,
  trivial, algebraic7, trivial, algebraic8, trivial, algebraic6⟩

end Cert.Proof

end
